-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_CopyKernel (m : (ℓ : Loc Cert.CopyKernel.nD Cert.CopyKernel.τ Cert.CopyKernel.sig) → Buf (Elt Bits) ℓ) : Prop :=
  True

def Pre_CopyKernelIdeal (m : (ℓ : Loc Cert.CopyKernelIdeal.nD Cert.CopyKernelIdeal.τ Cert.CopyKernelIdeal.sig) → Buf (Elt Ideal) ℓ) : Prop :=
  True

def Pre_CopyReferenceIdeal (m : (ℓ : Loc Cert.CopyReferenceIdeal.nD Cert.CopyReferenceIdeal.τ Cert.CopyReferenceIdeal.sig) → Buf (Elt Ideal) ℓ) : Prop :=
  True

def Pre_CopyReference (m : (ℓ : Loc Cert.CopyReference.nD Cert.CopyReference.τ Cert.CopyReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_CopyKernel [hCopyKernel : Cert.CopyKernel.Facts] : Prop :=
  ∀ (m : (ℓ : Loc Cert.CopyKernel.nD Cert.CopyKernel.τ Cert.CopyKernel.sig) → Buf (Elt Bits) ℓ) (g : Dev Cert.CopyKernel.nD → PrngReg), Pre_CopyKernel m →
    θ_run (Cert.CopyKernel.defs (F := Bits)) (Cert.CopyKernel.threads (F := Bits)) ⟨m, fun _ => 0, g⟩ (fun r => (∀ c : Dev Cert.CopyKernel.nD,
      r.2.mem ((c.tc : Thread Cert.CopyKernel.nD Cert.CopyKernel.τ).loc Cert.CopyKernel.main_arg0) = m ((c.tc : Thread Cert.CopyKernel.nD Cert.CopyKernel.τ).loc Cert.CopyKernel.main_arg0))
      ∧ r.2.sem = fun _ => 0)

def quiescent_CopyKernelIdeal [hCopyKernelIdeal : Cert.CopyKernelIdeal.Facts] : Prop :=
  ∀ (m : (ℓ : Loc Cert.CopyKernelIdeal.nD Cert.CopyKernelIdeal.τ Cert.CopyKernelIdeal.sig) → Buf (Elt Ideal) ℓ) (g : Dev Cert.CopyKernelIdeal.nD → PrngReg), Pre_CopyKernelIdeal m →
    θ_run (Cert.CopyKernelIdeal.defs (F := Ideal)) (Cert.CopyKernelIdeal.threads (F := Ideal)) ⟨m, fun _ => 0, g⟩ (fun r => (∀ c : Dev Cert.CopyKernelIdeal.nD,
      r.2.mem ((c.tc : Thread Cert.CopyKernelIdeal.nD Cert.CopyKernelIdeal.τ).loc Cert.CopyKernelIdeal.main_arg0) = m ((c.tc : Thread Cert.CopyKernelIdeal.nD Cert.CopyKernelIdeal.τ).loc Cert.CopyKernelIdeal.main_arg0))
      ∧ r.2.sem = fun _ => 0)

def quiescent_CopyReferenceIdeal [hCopyReferenceIdeal : Cert.CopyReferenceIdeal.Facts] : Prop :=
  ∀ (m : (ℓ : Loc Cert.CopyReferenceIdeal.nD Cert.CopyReferenceIdeal.τ Cert.CopyReferenceIdeal.sig) → Buf (Elt Ideal) ℓ) (g : Dev Cert.CopyReferenceIdeal.nD → PrngReg), Pre_CopyReferenceIdeal m →
    θ_run (Cert.CopyReferenceIdeal.defs (F := Ideal)) (onTc (τ := Cert.CopyReferenceIdeal.τ) (Cert.CopyReferenceIdeal.main (F := Ideal))) ⟨m, fun _ => 0, g⟩ (fun r => (∀ c : Dev Cert.CopyReferenceIdeal.nD,
      r.2.mem ((c.tc : Thread Cert.CopyReferenceIdeal.nD Cert.CopyReferenceIdeal.τ).loc Cert.CopyReferenceIdeal.main_arg0) = m ((c.tc : Thread Cert.CopyReferenceIdeal.nD Cert.CopyReferenceIdeal.τ).loc Cert.CopyReferenceIdeal.main_arg0))
      ∧ r.2.sem = fun _ => 0)

def quiescent_CopyReference [hCopyReference : Cert.CopyReference.Facts] : Prop :=
  ∀ (m : (ℓ : Loc Cert.CopyReference.nD Cert.CopyReference.τ Cert.CopyReference.sig) → Buf (Elt Bits) ℓ) (g : Dev Cert.CopyReference.nD → PrngReg), Pre_CopyReference m →
    θ_run (Cert.CopyReference.defs (F := Bits)) (onTc (τ := Cert.CopyReference.τ) (Cert.CopyReference.main (F := Bits))) ⟨m, fun _ => 0, g⟩ (fun r => (∀ c : Dev Cert.CopyReference.nD,
      r.2.mem ((c.tc : Thread Cert.CopyReference.nD Cert.CopyReference.τ).loc Cert.CopyReference.main_arg0) = m ((c.tc : Thread Cert.CopyReference.nD Cert.CopyReference.τ).loc Cert.CopyReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def preserves_CopyKernel_CopyKernelIdeal : Prop :=
  True

def algebraic_CopyKernelIdeal_CopyReferenceIdeal [hCopyKernelIdeal : Cert.CopyKernelIdeal.Facts] [hCopyReferenceIdeal : Cert.CopyReferenceIdeal.Facts] : Prop :=
  ∀ (m : (ℓ : Loc Cert.CopyKernelIdeal.nD Cert.CopyKernelIdeal.τ Cert.CopyKernelIdeal.sig) → Buf (Elt Ideal) ℓ) (g : Dev Cert.CopyKernelIdeal.nD → PrngReg)
    (m' : (ℓ : Loc Cert.CopyReferenceIdeal.nD Cert.CopyReferenceIdeal.τ Cert.CopyReferenceIdeal.sig) → Buf (Elt Ideal) ℓ) (g' : Dev Cert.CopyReferenceIdeal.nD → PrngReg), Pre_CopyKernelIdeal m →
    (∀ c : Dev Cert.CopyKernelIdeal.nD,
      m' ((c.tc : Thread Cert.CopyReferenceIdeal.nD Cert.CopyReferenceIdeal.τ).loc Cert.CopyReferenceIdeal.main_arg0) = m ((c.tc : Thread Cert.CopyKernelIdeal.nD Cert.CopyKernelIdeal.τ).loc Cert.CopyKernelIdeal.main_arg0)) →
    ∃ (v0 : (c : Dev Cert.CopyKernelIdeal.nD) → Buf (Elt Ideal) ((c.tc : Thread Cert.CopyKernelIdeal.nD Cert.CopyKernelIdeal.τ).loc Cert.CopyKernelIdeal.main_v4)),
      θ_run (Cert.CopyKernelIdeal.defs (F := Ideal)) (Cert.CopyKernelIdeal.threads (F := Ideal)) ⟨m, fun _ => 0, g⟩ (fun r => ∀ c : Dev Cert.CopyKernelIdeal.nD,
          r.2.mem ((c.tc : Thread Cert.CopyKernelIdeal.nD Cert.CopyKernelIdeal.τ).loc Cert.CopyKernelIdeal.main_v4) = v0 c
          ∧ r.2.mem ((c.tc : Thread Cert.CopyKernelIdeal.nD Cert.CopyKernelIdeal.τ).loc Cert.CopyKernelIdeal.main_arg0) = m ((c.tc : Thread Cert.CopyKernelIdeal.nD Cert.CopyKernelIdeal.τ).loc Cert.CopyKernelIdeal.main_arg0))
      ∧ θ_run (Cert.CopyReferenceIdeal.defs (F := Ideal)) (onTc (τ := Cert.CopyReferenceIdeal.τ) (Cert.CopyReferenceIdeal.main (F := Ideal))) ⟨m', fun _ => 0, g'⟩ (fun r => ∀ c : Dev Cert.CopyReferenceIdeal.nD,
          r.2.mem ((c.tc : Thread Cert.CopyReferenceIdeal.nD Cert.CopyReferenceIdeal.τ).loc Cert.CopyReferenceIdeal.main_v1) = v0 c
          ∧ r.2.mem ((c.tc : Thread Cert.CopyReferenceIdeal.nD Cert.CopyReferenceIdeal.τ).loc Cert.CopyReferenceIdeal.main_arg0) = m' ((c.tc : Thread Cert.CopyReferenceIdeal.nD Cert.CopyReferenceIdeal.τ).loc Cert.CopyReferenceIdeal.main_arg0))

def bitexact_CopyKernel_CopyReference [hCopyKernel : Cert.CopyKernel.Facts] [hCopyReference : Cert.CopyReference.Facts] : Prop :=
  ∀ (m : (ℓ : Loc Cert.CopyKernel.nD Cert.CopyKernel.τ Cert.CopyKernel.sig) → Buf (Elt Bits) ℓ) (g : Dev Cert.CopyKernel.nD → PrngReg)
    (m' : (ℓ : Loc Cert.CopyReference.nD Cert.CopyReference.τ Cert.CopyReference.sig) → Buf (Elt Bits) ℓ) (g' : Dev Cert.CopyReference.nD → PrngReg), Pre_CopyKernel m →
    (∀ c : Dev Cert.CopyKernel.nD,
      m' ((c.tc : Thread Cert.CopyReference.nD Cert.CopyReference.τ).loc Cert.CopyReference.main_arg0) = m ((c.tc : Thread Cert.CopyKernel.nD Cert.CopyKernel.τ).loc Cert.CopyKernel.main_arg0)) →
    ∃ (v0 : (c : Dev Cert.CopyKernel.nD) → Buf (Elt Bits) ((c.tc : Thread Cert.CopyKernel.nD Cert.CopyKernel.τ).loc Cert.CopyKernel.main_v4)),
      θ_run (Cert.CopyKernel.defs (F := Bits)) (Cert.CopyKernel.threads (F := Bits)) ⟨m, fun _ => 0, g⟩ (fun r => ∀ c : Dev Cert.CopyKernel.nD,
          r.2.mem ((c.tc : Thread Cert.CopyKernel.nD Cert.CopyKernel.τ).loc Cert.CopyKernel.main_v4) = v0 c
          ∧ r.2.mem ((c.tc : Thread Cert.CopyKernel.nD Cert.CopyKernel.τ).loc Cert.CopyKernel.main_arg0) = m ((c.tc : Thread Cert.CopyKernel.nD Cert.CopyKernel.τ).loc Cert.CopyKernel.main_arg0))
      ∧ θ_run (Cert.CopyReference.defs (F := Bits)) (onTc (τ := Cert.CopyReference.τ) (Cert.CopyReference.main (F := Bits))) ⟨m', fun _ => 0, g'⟩ (fun r => ∀ c : Dev Cert.CopyReference.nD,
          r.2.mem ((c.tc : Thread Cert.CopyReference.nD Cert.CopyReference.τ).loc Cert.CopyReference.main_v1) = v0 c
          ∧ r.2.mem ((c.tc : Thread Cert.CopyReference.nD Cert.CopyReference.τ).loc Cert.CopyReference.main_arg0) = m' ((c.tc : Thread Cert.CopyReference.nD Cert.CopyReference.τ).loc Cert.CopyReference.main_arg0))

def Claim : Prop :=
  ∃ (hKernel : Cert.Kernel.Facts) (hKernelIdeal : Cert.KernelIdeal.Facts) (hReferenceIdeal : Cert.ReferenceIdeal.Facts) (hReference : Cert.Reference.Facts) (hCopyKernel : Cert.CopyKernel.Facts) (hCopyKernelIdeal : Cert.CopyKernelIdeal.Facts) (hCopyReferenceIdeal : Cert.CopyReferenceIdeal.Facts) (hCopyReference : Cert.CopyReference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_CopyKernel (hCopyKernel := hCopyKernel)
    ∧ quiescent_CopyKernelIdeal (hCopyKernelIdeal := hCopyKernelIdeal)
    ∧ quiescent_CopyReferenceIdeal (hCopyReferenceIdeal := hCopyReferenceIdeal)
    ∧ quiescent_CopyReference (hCopyReference := hCopyReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_CopyKernel_CopyKernelIdeal
    ∧ algebraic_CopyKernelIdeal_CopyReferenceIdeal (hCopyKernelIdeal := hCopyKernelIdeal) (hCopyReferenceIdeal := hCopyReferenceIdeal)
    ∧ bitexact_CopyKernel_CopyReference (hCopyKernel := hCopyKernel) (hCopyReference := hCopyReference)
-- ==== Kernel.lean ====
abbrev S4x4096x2048 : Shape := ⟨3, ![4, 4096, 2048]⟩
abbrev S16x2x8 : Shape := ⟨3, ![16, 2, 8]⟩
abbrev S16384x2048 : Shape := ⟨2, ![16384, 2048]⟩
abbrev S4x64x2048 : Shape := ⟨3, ![4, 64, 2048]⟩
abbrev S8 : Shape := ⟨1, ![8]⟩
abbrev S8x2048 : Shape := ⟨2, ![8, 2048]⟩
abbrev S_ : Shape := ⟨0, ![]⟩
abbrev S1x1x8 : Shape := ⟨3, ![1, 1, 8]⟩
abbrev S8x128 : Shape := ⟨2, ![8, 128]⟩
abbrev S16384x128 : Shape := ⟨2, ![16384, 128]⟩
abbrev S1x8x2048 : Shape := ⟨3, ![1, 8, 2048]⟩

abbrev nBuf : Table → Nat
  | .hbm => 4
  | .local .scVector .vmem => 4
  | _ => 0

abbrev bufTy : (tb : Table) → Fin (nBuf tb) → BufTy
  | .hbm, ⟨0, _⟩ => ⟨S4x4096x2048, .f32⟩
  | .hbm, ⟨1, _⟩ => ⟨S16x2x8, .i32⟩
  | .hbm, ⟨2, _⟩ => ⟨S16384x2048, .f32⟩
  | .hbm, ⟨3, _⟩ => ⟨S4x64x2048, .f32⟩
  | .local .scVector .vmem, ⟨0, _⟩ => ⟨S8, .i32⟩
  | .local .scVector .vmem, ⟨1, _⟩ => ⟨S8, .i32⟩
  | .local .scVector .vmem, ⟨2, _⟩ => ⟨S8x2048, .f32⟩
  | .local .scVector .vmem, ⟨3, _⟩ => ⟨S8x2048, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_c_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 3 → Nat :=
  let arg1 : BitVec 32 := BitVec.ofNat 32 (i 1).val
  let c0_i32_10 : BitVec 32 := 0#32
  let c0_i32_11 : BitVec 32 := 0#32
  ![arg1.toNat, 0, 0]
def k0_off2 (i : grid0.Coords) : Fin 3 → Nat :=
  let arg1 : BitVec 32 := BitVec.ofNat 32 (i 1).val
  let c1_i32_13 : BitVec 32 := 1#32
  let c0_i32_14 : BitVec 32 := 0#32
  ![arg1.toNat, 1, 0]
def k0_off3 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c0_i32_199 : BitVec 32 := 0#32
  ![v16.toNat, v27.toNat, 0]
def k0_off4 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c8_i32 : BitVec 32 := 8#32
  let v176 : BitVec 32 := Scalar.addi v27 c8_i32
  let c0_i32_265 : BitVec 32 := 0#32
  ![v16.toNat, v176.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x4096x2048 : Shape := ⟨3, ![4, 4096, 2048]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S4x64x2048 : Shape := ⟨3, ![4, 64, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S64x1, .i32⟩
  | .hbm, ⟨10, _⟩ => ⟨S1, .i32⟩
  | .hbm, ⟨11, _⟩ => ⟨S_, .i32⟩
  | .hbm, ⟨12, _⟩ => ⟨S64x1, .i32⟩
  | .hbm, ⟨13, _⟩ => ⟨S64x1, .i1⟩
  | .hbm, ⟨14, _⟩ => ⟨S1x1, .i32⟩
  | .hbm, ⟨15, _⟩ => ⟨S64x1, .i32⟩
  | .hbm, ⟨16, _⟩ => ⟨S64x1, .i1⟩
  | .hbm, ⟨17, _⟩ => ⟨S64x1, .i1⟩
  | .hbm, ⟨18, _⟩ => ⟨S_, .i1⟩
  | .hbm, ⟨19, _⟩ => ⟨S64, .i1⟩
  | .hbm, ⟨20, _⟩ => ⟨S4x64x2048, .f32⟩
  | .hbm, ⟨21, _⟩ => ⟨S4x64x2048, .i1⟩
  | .hbm, ⟨22, _⟩ => ⟨S_, .f32⟩
  | .hbm, ⟨23, _⟩ => ⟨S4x64x2048, .f32⟩
  | .hbm, ⟨24, _⟩ => ⟨S4x64x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== CopyKernel.lean ====
abbrev S4x4096x2048 : Shape := ⟨3, ![4, 4096, 2048]⟩
abbrev S16384x2048 : Shape := ⟨2, ![16384, 2048]⟩
abbrev S256x2048 : Shape := ⟨2, ![256, 2048]⟩
abbrev S_ : Shape := ⟨0, ![]⟩
abbrev S8x2048 : Shape := ⟨2, ![8, 2048]⟩
abbrev S4x64x2048 : Shape := ⟨3, ![4, 64, 2048]⟩
abbrev S1x8x2048 : Shape := ⟨3, ![1, 8, 2048]⟩

abbrev nBuf : Table → Nat
  | .hbm => 6
  | _ => 0

abbrev bufTy : (tb : Table) → Fin (nBuf tb) → BufTy
  | .hbm, ⟨0, _⟩ => ⟨S4x4096x2048, .f32⟩
  | .hbm, ⟨1, _⟩ => ⟨S16384x2048, .f32⟩
  | .hbm, ⟨2, _⟩ => ⟨S256x2048, .f32⟩
  | .hbm, ⟨3, _⟩ => ⟨S4x64x2048, .f32⟩
  | .hbm, ⟨4, _⟩ => ⟨S1x8x2048, .f32⟩
  | .hbm, ⟨5, _⟩ => ⟨S8x2048, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0_scs : Ref sig .scScalar := ⟨.hbm, 1, rfl⟩
abbrev main_v1_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== CopyReference.lean ====
abbrev S4x4096x2048 : Shape := ⟨3, ![4, 4096, 2048]⟩
abbrev S1x8x2048 : Shape := ⟨3, ![1, 8, 2048]⟩
abbrev S8x2048 : Shape := ⟨2, ![8, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x8x2048, .f32⟩
  | .hbm, ⟨2, _⟩ => ⟨S8x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.RefValue.lean ====
/-
  The reference's result, element by element: at `(b, k, y)` the input at batch `b`, time `lit0 k`, column `y`. The times
  are constants, all from 0 to 4095: none is wrapped, none is masked.
-/
module

public import proofs.«01_k».proof.Proof.Gen.ReferenceIdeal.Run
public import Idealize.ShloMosaic.Lib.ReduceAll
public import Idealize.ShloMosaic.Lib.ValueLayout

@[expose] public section

noncomputable section

namespace Cert.Proof.RefValue

open Cert.ReferenceIdeal Cert.ReferenceIdeal.Gen Idealize.ShloMosaic Idealize.ShloMosaic.ValueIdx Idealize.SL.Sem

/-- Every time is one of the 4096. -/
theorem time_lt : ∀ k, (lit0 k).toNat < 4096 := by decide +kernel

/-- The times as the reference gathers at them: wrapped where negative, as a column. -/
abbrev times : IVec S64x1 32 :=
  broadcastInDim S64x1 ![0] bcast_S64_S64x1_0 (select (cmpi .slt ((fun i => lit0 (S64.rowMajor i))) (broadcastInDim S64 ![] bcast_S_S64 (constantI S_ 32 0#32)))
    (addi ((fun i => lit0 (S64.rowMajor i))) (broadcastInDim S64 ![] bcast_S_S64 (constantI S_ 32 4096#32))) ((fun i => lit0 (S64.rowMajor i))))

/-- The test that a time is in range. -/
abbrev inRange : IVec S64x1 1 :=
  andi (cmpi .sge times (broadcastInDim S64x1 ![] bcast_S_S64x1 (constantI S_ 32 0#32)))
    (cmpi .sle times (broadcastInDim S64x1 ![0, 1] bcast_S1x1_S64x1_0_1 (broadcastInDim S1x1 ![1] bcast_S1_S1x1_1 (constantI S1 32 4095#32))))

/-- None is wrapped; -/
theorem wrapped_eq : ∀ k : Fin 64, Scalar.select (IntOp.cmpi .slt (lit0 k) 0#32) (IntOp.addi (lit0 k) 4096#32) (lit0 k) = lit0 k := by decide +kernel

theorem times_apply (i : S64x1.Idx) : times i = lit0 (i 0) := by
  have e : ∀ j : S64.Idx, j 0 = i 0 → lit0 (S64.rowMajor j) = lit0 (i 0) := fun j h =>
    congrArg lit0 (Fin.ext ((Shape.rowMajor_val_one j).trans (congrArg Fin.val h)))
  refine Eq.trans ?_ (wrapped_eq (i 0))
  show Scalar.select (IntOp.cmpi .slt (lit0 (S64.rowMajor _)) 0#32) (IntOp.addi (lit0 (S64.rowMajor _)) 4096#32) (lit0 (S64.rowMajor _)) = _
  rw [e _ rfl]

/-- all are in range. -/
theorem ranged_eq : ∀ k : Fin 64, IntOp.andi (IntOp.cmpi .sge (lit0 k) 0#32) (IntOp.cmpi .sle (lit0 k) 4095#32) = 1#1 := by decide +kernel

theorem inRange_apply (i : S64x1.Idx) : inRange i = 1#1 := by
  show IntOp.andi (IntOp.cmpi .sge (times i) 0#32) (IntOp.cmpi .sle (times i) 4095#32) = 1#1
  rw [times_apply]; exact ranged_eq _

/-! ## The gather -/

/-- The gather's dimension numbers. -/
abbrev dims := gather_S4x4096x2048_S64x1_S4x64x2048_02_1_n_n_1_1_412048

/-- The one start index result element `y` reads is the one of its place. -/
theorem siIdx_eq (y : S4x64x2048.Idx) (c : Fin dims.startIndexMap.length) : (dims.siIdx y c 0).val = (y 1).val := rfl

/-- A time within range is what the gather reads it as. -/
theorem clamp_eq : ∀ k : Fin 64, min (lit0 k).toInt.toNat (4096 - 1) = (lit0 k).toNat := by decide +kernel

/-- Along the batch and the column a gathered slice starts at 0; -/
theorem start_batch (y : S4x64x2048.Idx) : dims.start y times (0 : Fin 3) = 0 := by
  unfold GatherDims.start
  rw [dif_neg (show (0 : Fin 3) ∉ dims.startIndexMap by decide)]

theorem start_column (y : S4x64x2048.Idx) : dims.start y times (2 : Fin 3) = 0 := by
  unfold GatherDims.start
  rw [dif_neg (show (2 : Fin 3) ∉ dims.startIndexMap by decide)]

/-- along the time, at the time of the place. -/
theorem start_time (y : S4x64x2048.Idx) : dims.start y times (1 : Fin 3) = (lit0 (y 1)).toNat := by
  unfold GatherDims.start
  rw [dif_pos (show (1 : Fin 3) ∈ dims.startIndexMap by decide), times_apply]
  exact clamp_eq (y 1)

theorem off_time (y : S4x64x2048.Idx) : dims.offCoord y (1 : Fin 3) = 0 :=
  dims.offCoord_eq_zero _ _ (show (1 : Fin 3) ∉ dims.sKept by decide)

/-- The gather at `(b, k, y)`: the input at `(b, lit0 k, y)`. -/
theorem gather_apply {α : Type} (x : S4x4096x2048.Idx → α) (y : S4x64x2048.Idx) :
    Host.gather dims x times y = x (ix3 (y 0) ⟨(lit0 (y 1)).toNat, time_lt _⟩ (y 2)) := by
  unfold Host.gather
  refine congrArg x (funext fun a => Fin.ext ?_)
  show dims.start y times a + dims.batchCoord y a + dims.offCoord y a = _
  rw [dims.batchCoord_eq_zero _ _ List.not_mem_nil]
  match a with
  | ⟨0, _⟩ => exact (congrArg (· + 0 + (y 0).val) (start_batch y)).trans (by show 0 + 0 + (y 0).val = (y 0).val; omega)
  | ⟨1, _⟩ => exact congrArg₂ (fun s o => s + 0 + o) (start_time y) (off_time y)
  | ⟨2, _⟩ => exact (congrArg (· + 0 + (y 2).val) (start_column y)).trans (by show 0 + 0 + (y 2).val = (y 2).val; omega)

/-! ## The result -/

/-- What the reference computes of the input `x`. -/
def refOf {α : Type} (x : S4x4096x2048.Idx → α) (y : S4x64x2048.Idx) : α := x (ix3 (y 0) ⟨(lit0 (y 1)).toNat, time_lt _⟩ (y 2))

variable {F : FTy → Type} [FloatOps F]

/-- The reference's run: its result is `refOf` of its argument, which is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = refOf (m ((c.tc : Thread nD τ).loc main_arg0))
      ∧ r.2.mem ((c.tc : Thread nD τ).loc main_arg0) = m ((c.tc : Thread nD τ).loc main_arg0) := by
  refine (θ_run defs _ _).mono (fun r h c => ⟨(h c).1.trans (funext fun y => ?_), (h c).2⟩) (Value.run m ρ)
  show Scalar.select (Host.reduce IntOp.andi inRange (constantI S_ 1 1#1) reducesTo_S64x1_S64_d1 h_S_ _) (Host.gather dims _ times y) _ = _
  rw [Host.reduce_andi_one _ _ _ _ _ rfl inRange_apply]
  exact gather_apply _ y

end Cert.Proof.RefValue

end
-- ==== Proof.GatherBatch.lean ====
/-
  SEVERAL INDIRECT GATHERS ON ONE DMA SEMAPHORE.

  A tile may start one gather after another on the same DMA semaphore and only then wait, once per gather. The
  engine serves the rows of all of them in any order, and each row pays the semaphore on its own; so a wait that is
  not the last says nothing about any row. The gathers are therefore treated as one batch whose members are the ROWS:
  every row has the same credit, the batch's deliveries are one per row, and a gather of `o` rows uses up the next `o`
  issue rights of the batch. Only when every unit of the batch has been waited for are the rows' deliveries taken out.

  `wp_gatherInBatch` is the rule for starting one gather of such a batch.
-/
module

public import Idealize.ShloMosaic.Lib.SparseCore.Stream
public import Idealize.ShloMosaic.Lib.Batch

@[expose] public section

noncomputable section

namespace Cert.Proof.GatherBatch

open Idealize.ShloMosaic
open Idealize.ShloMosaic.SparseCore (rows gatherPayload gatherRow rowOf rowOf_of_lt enqueueIndirectGather enqueueIndirectGather_bind)
open Idealize.ShloMosaic.Transfers (Batch batchBody pending)
open Idealize.SL Idealize.SL.RA
open Idealize.SL.BI (sProp Storable bigSep)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Two propositions each entailing the other are equal. -/
theorem eq_of_both {P P' : sProp 𝕄} (h : P ⊢ P') (h' : P' ⊢ P) : P = P' := BI.Entails.antisymm h h'

/-- The issue rights from the `j`-th on are the next `o` of them and those from the `j + o`-th on. -/
theorem pending_take {n : ℕ} (Φ : Fin n → sProp 𝕄) (j : ℕ) : ∀ (o : ℕ) (h : j + o ≤ n),
    bigSep (pending (n := n) j) Φ
      = iprop((bigSep Finset.univ fun r : Fin o => Φ ⟨j + r.val, by omega⟩) ∗ bigSep (pending (n := n) (j + o)) Φ)
  | 0, _ => by
    rw [Finset.univ_eq_empty, BI.bigSep_empty]
    exact eq_of_both emp_sep.2 emp_sep.1
  | o + 1, h => by
    have hs : (Finset.univ : Finset (Fin (o + 1))) = insert (Fin.last o) (Finset.univ.map Fin.castSuccEmb) := by
      ext x; refine ⟨fun _ => ?_, fun _ => Finset.mem_univ _⟩
      induction x using Fin.lastCases with
      | last => exact Finset.mem_insert_self _ _
      | cast i => exact Finset.mem_insert_of_mem (Finset.mem_map.mpr ⟨i, Finset.mem_univ _, rfl⟩)
    have hnot : Fin.last o ∉ (Finset.univ.map Fin.castSuccEmb : Finset (Fin (o + 1))) := by
      intro hm
      obtain ⟨i, -, hi⟩ := Finset.mem_map.mp hm
      exact absurd (congrArg Fin.val hi) (by simp; omega)
    have hl : (bigSep Finset.univ fun r : Fin (o + 1) => Φ ⟨j + r.val, by omega⟩)
        = iprop(Φ ⟨j + o, by omega⟩ ∗ bigSep Finset.univ fun r : Fin o => Φ ⟨j + r.val, by omega⟩) := by
      rw [hs, BI.bigSep_insert hnot, BI.bigSep_map]; rfl
    have hr : bigSep (pending (n := n) (j + o)) Φ = iprop(Φ ⟨j + o, by omega⟩ ∗ bigSep (pending (n := n) (j + (o + 1))) Φ) :=
      Transfers.bigSep_pending_step Φ (j + o) (by omega)
    rw [pending_take Φ j o (by omega), hl, hr]
    refine eq_of_both ?_ ?_
    · iintro ⟨H1, H2, H3⟩
      isplitl [H1 H2]
      · isplitl [H2]; · iexact H2
        iexact H1
      iexact H3
    · iintro ⟨⟨H2, H1⟩, H3⟩
      isplitl [H1]; · iexact H1
      isplitl [H2]; · iexact H2
      iexact H3

/-- Entry `r` of an offset list, as an index of the list. -/
abbrev entryIx {o : ℕ} (hn : si.numel = o) (r : Fin o) : si.Idx := si.rowMajor.symm (r.cast hn.symm)

theorem entryIx_bijective {o : ℕ} (hn : si.numel = o) : Function.Bijective (entryIx hn) :=
  si.rowMajor.symm.bijective.comp (finCongr hn.symm).bijective

/-- The elements of the source row the list names for row `r`. -/
def rowPayload (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis) (r : Fin (s.size hg.axis')) : (s.rowShape hg.axis').Idx → Elt F e :=
  fun i => src.view.read (Elt F) fs (hg.rowIdx (rows (offs.view.read (Elt F) fo) hn hin r) i)

/-- What row `r` of a gather delivers: the destination's row holding the source's row the list names for it, the
    list's entry it read and its piece of the source's share. -/
def rowDelivery (src : Memref sig c.2.kind sp s₀ e) (dst : Memref sig c.2.kind .vmem s e) (hg : s₀.Gathers a s)
    (offs : Memref sig c.2.kind .vmem si .i32) (hn : si.numel = s.size hg.axis')
    (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (r : Fin (s.size hg.axis')) : sProp 𝕄 :=
  iprop(((dst.view.loc c ↦[(dst.view.slice (s.rowRect hg.axis' r)).set]{fullShare}
          ((dst.view.slice (s.rowRect hg.axis' r)).write (Elt F) fd
            (rowPayload c src hg offs hn fs fo hin r) Finset.univ))
      ∗ (offs.view.loc c ↦[{offs.view.emb (entryIx hn r)}]{qo} fo))
    ∗ (src.view.loc c ↦[src.view.set]{pieceOf q _ ho r} fs))

instance rowDelivery_storable (src : Memref sig c.2.kind sp s₀ e) (dst : Memref sig c.2.kind .vmem s e) (hg : s₀.Gathers a s)
    (offs : Memref sig c.2.kind .vmem si .i32) (hn : si.numel = s.size hg.axis')
    (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (r : Fin (s.size hg.axis')) :
    Storable (upEmb : UEmb _ 𝕄) (rowDelivery c src dst hg offs hn ho q qo fs fd fo hin r) := by
  unfold rowDelivery; infer_instance

/-- The rows of one gather, all delivered: the destination written with the gather's payload, and the shares of the
    source and of the list back. -/
theorem rowDeliveries_join (src : Memref sig c.2.kind sp s₀ e) (dst : Memref sig c.2.kind .vmem s e) (hg : s₀.Gathers a s)
    (offs : Memref sig c.2.kind .vmem si .i32) (hn : si.numel = s.size hg.axis')
    (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) :
    (bigSep Finset.univ (rowDelivery c src dst hg offs hn ho q qo fs fd fo hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowDelivery
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd
      (rowPayload c src hg offs hn fs fo hin)
      (gatherPayload hg (src.view.read (Elt F) fs) (rows (offs.view.read (Elt F) fo) hn hin)) (fun j i => by
        unfold rowPayload gatherPayload; rw [Shape.Gathers.idx_rowRect_emb])) $$ Hrows
  isplitl [Hsrc]; · iapply (Entails.of_eq (pointsTo_piecesOf (src.view.set) fs ho q).symm) $$ Hsrc
  iapply (Entails.of_eq (pointsTo_entries c offs.view (entryIx hn) (entryIx_bijective hn) qo fo).symm) $$ Hoffs

/-- STARTING ONE GATHER OF A BATCH whose members are rows of credit `R`: the tile hands in a share of the source's
    elements, the destination's outright, a share of the offset list with every word in range, and the batch with the
    rows below `j` started; it continues with the batch with this gather's rows started too. Row `r`'s delivery must
    give the batch's delivery `j + r`. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ι : Ix) (R : ℕ)
    (hR : ∀ r, (dst.slice (s.rowRect hg.axis' r) (s.stride_rowRect hg.axis' r)).view.dmaCredit = R)
    (ho : 0 < s.size hg.axis') (hj : j + s.size hg.axis' ≤ n) (hu : u ≤ j * R)
    (hin : ∀ x, (offs.view.read (Elt F) fo x).toNat < s₀.size hg.axis)
    (hD : ∀ r : Fin (s.size hg.axis'), rowDelivery c src dst hg offs hn ho q qo fs fd fo hin r ⊢ D ⟨j + r.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι R D j u)
      ⊢ iprop((Batch EC c (.dma sem) ι R D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun r =>
    gatherRow c src dst hg sem hsrc he hsp hr r (rows (offs.view.read (Elt F) fo) hn hin r)
  have hA : S.RowsAgree := by
    intro r x x' ρ ρ' h h'
    obtain ⟨_, _, rfl⟩ := Option.map_eq_some_iff.mp h
    obtain ⟨_, _, rfl⟩ := Option.map_eq_some_iff.mp h'
    rfl
  have hrd : ∀ r, S.row r (S.word fo r) = some (rd r) := fun r => by
    change (rowOf (s₀.size hg.axis) (offs.view.read (Elt F) fo (S.entry r))).map _ = _
    rw [rowOf_of_lt (hin _)]; rfl
  have hN : ∑ r, (rd r).dst.view.dmaCredit = s.size hg.axis' * R := by
    rw [Finset.sum_congr rfl fun r _ => hR r, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_take (fun t => count EC (γ t) 0) j _ hj)) $$ HI
  icases HI' with ⟨Hγ, HI⟩
  ihave Hd' := (Entails.of_eq (pointsTo_rows c dst.view hg.axis' fullShare fd)) $$ Hd
  ihave Ho' := (Entails.of_eq (pointsTo_entries c offs.view (entryIx hn) (entryIx_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hN) $$ [Hd' Ho' Hs' Hγ]
  · have hrow : ∀ r : Fin (s.size hg.axis'), iprop(inv κ (batchBody EC (c, SemLoc.dma sem) R D γ γ₀)
          ∗ ((((dst.view.loc c ↦[(dst.view.slice (s.rowRect hg.axis' r)).set]{fullShare} fd)
              ∗ (offs.view.loc c ↦[{offs.view.emb (entryIx hn r)}]{qo} fo))
            ∗ (src.view.loc c ↦[src.view.set]{pieceOf q _ ho r} fs)) ∗ count EC (γ ⟨j + r.val, by omega⟩) 0))
        ⊢ iprop(S.heldEntry qo fo r ∗ (S.heldEntry qo fo r -∗ rowRes c (rd r))) := fun r => by
      iintro ⟨#Hinv, ⟨⟨Hr, He⟩, Hsq⟩, Hγr⟩
      isplitl [He]; · iexact He
      iintro He
      unfold rowRes
      iexists pieceOf q _ ho r, fs, iprop((dst.view.loc c ↦[(dst.view.slice (s.rowRect hg.axis' r)).set]{fullShare}
          ((dst.view.slice (s.rowRect hg.axis' r)).write (Elt F) fd
            (rowPayload c src hg offs hn fs fo hin r) Finset.univ)) ∗ S.heldEntry qo fo r)
      isplitl [Hsq]; · iexact Hsq
      isplitl [Hr He]
      · iapply writeUpdate_frame
        isplitl [Hr]
        · iapply (pointsTo_writeUpdate c (v := dst.view.slice (s.rowRect hg.axis' r)) subset_rfl) $$ Hr
        · iexact He
      · rw [show (rd r).dst.view.amount (SemLoc.dma sem) = R from hR r]
        iapply (Transfers.batch_creditUpdate EC (D := D) (γ := γ) (γ₀ := γ₀) (ι := κ) ⟨j + r.val, by omega⟩ (hD r))
        isplitr; · iexact Hinv
        iexact Hγr
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun r _ => hrow r)
    isplitr; · iexact Hinv
    iexact H3
  iintro Hcred'
  iapply Hk
  iexists γ, γ₀, κ
  isplitr; · iexact Hinv
  isplitl [HI]; · iexact HI
  isplitl [H0]; · iexact H0
  rw [show (j + s.size hg.axis') * R - u = (j * R - u) + s.size hg.axis' * R by rw [Nat.add_mul]; omega, ← tallyAt_add]
  icombine Hcred Hcred' as H
  iexact H

end Cert.Proof.GatherBatch

end
-- ==== Proof.Body.lean ====
/-
  The kernel's body on one tile, with the gathers written as a loop.

  The tile moves two halves of eight table rows each. A half's eight rows of 2048 numbers are fetched by sixteen
  gathers, one per block of 128 columns, all on one semaphore and all with the same list of eight row numbers; they are
  waited for by sixteen waits. `issueBlocks` and `awaitBlocks` are those two runs of sixteen, `tileProgram` the body with
  them in their places, and `body_eq` says that the printed body is `tileProgram`.
-/
module

public import proofs.«01_k».proof.Proof.Gen.KernelIdeal
public import proofs.«01_k».proof.Proof.Gen.KernelIdeal.Skeleton

@[expose] public section

noncomputable section

namespace Cert.Proof.Body

open Cert.KernelIdeal Cert.KernelIdeal.Gen
open Idealize.ShloMosaic Idealize.SL.Sem

variable {F : FTy → Type} [FloatOps F]

/-- Column block `g` lies inside the table, -/
theorem inbTab (g : Fin 16) : ∀ a, (![0, 128 * g.val] : Fin 2 → Nat) a + S16384x128.size a ≤ S16384x2048.size a := by
  revert g; decide
/-- and inside a row buffer. -/
theorem inbRows (g : Fin 16) : ∀ a, (![0, 128 * g.val] : Fin 2 → Nat) a + S8x128.size a ≤ S8x2048.size a := by
  revert g; decide

/-- Column block `g` of the table. -/
abbrev tabBlk (t : Memref sig .scVector .hbm S16384x2048 .f32) (g : Fin 16) : Memref sig .scVector .hbm S16384x128 .f32 :=
  t.slice (Rect.unit (s := S16384x2048) ![0, 128 * g.val] S16384x128.size (inbTab g)) (fun _ => rfl)

/-- Column block `g` of a row buffer. -/
abbrev rowBlk (r : Memref sig .scVector .vmem S8x2048 .f32) (g : Fin 16) : Memref sig .scVector .vmem S8x128 .f32 :=
  r.slice (Rect.unit (s := S8x2048) ![0, 128 * g.val] S8x128.size (inbRows g)) (fun _ => rfl)

/-- The block numbered `16 - n`, counted from the front when `n` blocks are left. -/
abbrev blkAt (n : ℕ) (h : n + 1 ≤ 16) : Fin 16 := ⟨15 - n, by omega⟩

section Programs

/-- The programs of the tile at `L`. -/
abbrev tileProg (F : FTy → Type) [FloatOps F] (L : grid0.Coords) (α : Type) :=
  Prog (TpuEff nD τ sig (Elt F) Λ₀ (.scVector ((L 0).castLE hcore0) ((L 1).castLE hsub0))) α

/-- The last `n` of the sixteen gathers of one half. -/
def issueBlocks (L : grid0.Coords) (t : Memref sig .scVector .hbm S16384x2048 .f32) (r : Memref sig .scVector .vmem S8x2048 .f32)
    (ix : Memref sig .scVector .vmem S8 .i32) (sem : DmaSem sig) : (n : ℕ) → n ≤ 16 → tileProg F L PUnit
  | 0, _ => pure ⟨⟩
  | n + 1, h => do
    SparseCore.enqueueIndirectGather rfl (tabBlk t (blkAt n h)) (rowBlk r (blkAt n h)) gathers_S16384x128_S8x128 ix rfl sem
      (View.wordExact_bits rfl) rfl (Or.inl rfl)
    issueBlocks L t r ix sem n (by omega)

/-- The last `n` of the sixteen waits of one half. -/
def awaitBlocks (L : grid0.Coords) (t : Memref sig .scVector .hbm S16384x2048 .f32) (r : Memref sig .scVector .vmem S8x2048 .f32)
    (sem : DmaSem sig) : (n : ℕ) → n ≤ 16 → tileProg F L PUnit
  | 0, _ => pure ⟨⟩
  | n + 1, h => do
    SparseCore.waitIndirectGather sem (tabBlk t (blkAt n h)) (rowBlk r (blkAt n h)) (View.wordExact_bits rfl) (View.wordExact_bits rfl)
    awaitBlocks L t r sem n (by omega)

/-- The two lists of row numbers of a tile, as it addresses them in the array of lists. -/
abbrev list0 (L : grid0.Coords) (c : Memref sig .scVector .hbm S16x2x8 .i32) : Memref sig .scVector .hbm S8 .i32 :=
  (c.slice (Rect.unit (s := S16x2x8) (k0_off1 L) S1x1x8.size (k0_off1_inb L)) (fun _ => rfl)).squeeze S8 squeezes_S1x1x8_S8
abbrev list1 (L : grid0.Coords) (c : Memref sig .scVector .hbm S16x2x8 .i32) : Memref sig .scVector .hbm S8 .i32 :=
  (c.slice (Rect.unit (s := S16x2x8) (k0_off2 L) S1x1x8.size (k0_off2_inb L)) (fun _ => rfl)).squeeze S8 squeezes_S1x1x8_S8

/-- The two blocks of eight rows of the result a tile writes. -/
abbrev outBlk0 (L : grid0.Coords) (o : Memref sig .scVector .hbm S4x64x2048 .f32) : Memref sig .scVector .hbm S8x2048 .f32 :=
  (o.slice (Rect.unit (s := S4x64x2048) (k0_off3 L) S1x8x2048.size (k0_off3_inb L)) (fun _ => rfl)).squeeze S8x2048 squeezes_S1x8x2048_S8x2048
abbrev outBlk1 (L : grid0.Coords) (o : Memref sig .scVector .hbm S4x64x2048 .f32) : Memref sig .scVector .hbm S8x2048 .f32 :=
  (o.slice (Rect.unit (s := S4x64x2048) (k0_off4 L) S1x8x2048.size (k0_off4_inb L)) (fun _ => rfl)).squeeze S8x2048 squeezes_S1x8x2048_S8x2048

/-- The body of the kernel on the tile at `L`. -/
def tileProgram (L : grid0.Coords)
    (t : Memref sig .scVector .hbm S16384x2048 .f32) (c : Memref sig .scVector .hbm S16x2x8 .i32) (o : Memref sig .scVector .hbm S4x64x2048 .f32)
    (i0 : Memref sig .scVector .vmem S8 .i32) (hi0 : i0.IsWhole) (i1 : Memref sig .scVector .vmem S8 .i32) (hi1 : i1.IsWhole)
    (r0 : Memref sig .scVector .vmem S8x2048 .f32) (hr0 : r0.IsWhole) (r1 : Memref sig .scVector .vmem S8x2048 .f32) (hr1 : r1.IsWhole)
    (s0 s1 s2 s3 s4 s5 : DmaSem sig) : tileProg F L PUnit := do
  Prog.lift (.enqueueDma (list0 L c) (.here i0) (.dma s0) ((View.wordExact_bits rfl).reshape _ _) hi0.wordExact ⟨Or.inl rfl, trivial⟩)
  Prog.lift (.enqueueDma (list1 L c) (.here i1) (.dma s1) ((View.wordExact_bits rfl).reshape _ _) hi1.wordExact ⟨Or.inl rfl, trivial⟩)
  Prog.lift (.waitDma2 s0 (list0 L c) i0 ((View.wordExact_bits rfl).reshape _ _) hi0.wordExact)
  issueBlocks L t r0 i0 s2 16 (le_refl _)
  Prog.lift (.waitDma2 s1 (list1 L c) i1 ((View.wordExact_bits rfl).reshape _ _) hi1.wordExact)
  issueBlocks L t r1 i1 s3 16 (le_refl _)
  awaitBlocks L t r0 s2 16 (le_refl _)
  Prog.lift (.enqueueDma r0 (.here (outBlk0 L o)) (.dma s4) hr0.wordExact ((View.wordExact_bits rfl).reshape _ _) ⟨Or.inl rfl, trivial⟩)
  awaitBlocks L t r1 s3 16 (le_refl _)
  Prog.lift (.enqueueDma r1 (.here (outBlk1 L o)) (.dma s5) hr1.wordExact ((View.wordExact_bits rfl).reshape _ _) ⟨Or.inl rfl, trivial⟩)
  Prog.lift (.waitDma2 s4 r0 (outBlk0 L o) hr0.wordExact ((View.wordExact_bits rfl).reshape _ _))
  Prog.lift (.waitDma2 s5 r1 (outBlk1 L o) hr1.wordExact ((View.wordExact_bits rfl).reshape _ _))
  pure ⟨⟩

set_option maxRecDepth 65536 in
/-- The printed body is `tileProgram`. -/
theorem body_eq (L : grid0.Coords)
    (t : Memref sig .scVector .hbm S16384x2048 .f32) (ht : t.IsWhole) (c : Memref sig .scVector .hbm S16x2x8 .i32) (hc : c.IsWhole)
    (o : Memref sig .scVector .hbm S4x64x2048 .f32) (ho : o.IsWhole)
    (i0 : Memref sig .scVector .vmem S8 .i32) (hi0 : i0.IsWhole) (i1 : Memref sig .scVector .vmem S8 .i32) (hi1 : i1.IsWhole)
    (r0 : Memref sig .scVector .vmem S8x2048 .f32) (hr0 : r0.IsWhole) (r1 : Memref sig .scVector .vmem S8x2048 .f32) (hr1 : r1.IsWhole)
    (s0 s1 s2 s3 s4 s5 : DmaSems sig S_) :
    cc0_gather_rows (F := F) L t ht c hc o ho i0 hi0 i1 hi1 r0 hr0 r1 hr1 s0 s1 s2 s3 s4 s5
      = tileProgram L t c o i0 hi0 i1 hi1 r0 hr0 r1 hr1 s0.sem s1.sem s2.sem s3.sem s4.sem s5.sem := by
  rw [cc0_gather_rows_eq_skeleton (F := F)]
  rfl

end Programs

end Cert.Proof.Body

end
-- ==== Proof.Setup.lean ====
/-
  The kernel as the launch theorem sees it: the configuration of its SparseCore call, the ghost state the proof uses,
  the buffers by name, and the tile's thread.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.GatherBatch
public import proofs.«01_k».proof.Proof.Body

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.Sem
open Idealize.ShloMosaic.Rounds

variable {F : FTy → Type}

/-! ## The program's configuration -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## Ghost state: the handshakes' rounds and the transfers' counters -/

abbrev UH : Type := URounds (GSem nD τ sig) ℕ
abbrev UU : Type := UH × Counters
abbrev EH : Emb UH (MT nD τ sig (HIx 1) (Elt F) ℕ UU ℕ) := embL

/-! ## The buffers the call's operands and result are, on device `d` -/

abbrev aLoc (d : Dev nD) : Loc nD τ sig := (SparseCore.T d).loc main_arg0
abbrev cLoc (d : Dev nD) : Loc nD τ sig := (SparseCore.T d).loc main_c
abbrev tLoc (d : Dev nD) : Loc nD τ sig := (SparseCore.T d).loc main_v0
abbrev oLoc (d : Dev nD) : Loc nD τ sig := (SparseCore.T d).loc main_v1

/-! ## The tile at grid coordinates `L` -/

abbrev cV (L : grid0.Coords) : Fin τ.nSC := (L 0).castLE hcore0
abbrev jV (L : grid0.Coords) : Fin τ.nSub := (L 1).castLE hsub0
theorem bound_one : grid0.bound 1 = 16 := rfl
/-- The tile's number. -/
abbrev jL (L : grid0.Coords) : Fin 16 := Fin.cast bound_one (L 1)
/-- The tile's thread. -/
abbrev tile (d : Dev nD) (L : grid0.Coords) : Thread nD τ := V d (cV L) (jV L)

/-- The table, the array of lists and the result, as the tile addresses them; its two list buffers and its two row buffers. -/
abbrev tabM : Memref sig .scVector .hbm S16384x2048 .f32 := Memref.whole main_v0_scv
abbrev lstM : Memref sig .scVector .hbm S16x2x8 .i32 := Memref.whole main_c_scv
abbrev outM : Memref sig .scVector .hbm S4x64x2048 .f32 := Memref.whole main_v1_scv
abbrev ixM0 : Memref sig .scVector .vmem S8 .i32 := Memref.whole cc0_scratch0
abbrev ixM1 : Memref sig .scVector .vmem S8 .i32 := Memref.whole cc0_scratch1
abbrev rowM0 : Memref sig .scVector .vmem S8x2048 .f32 := Memref.whole cc0_scratch2
abbrev rowM1 : Memref sig .scVector .vmem S8x2048 .f32 := Memref.whole cc0_scratch3

end Cert.Proof.Gather

end
-- ==== Proof.Gathers.lean ====
/-
  One half of a tile's work: eight table rows fetched by sixteen gathers in flight at once on one semaphore.

  Each gather moves one block of 128 columns. The half's resources are split by column block (the table's share and the
  row buffer) and by share (the list, which all sixteen read), each gather takes its pieces, and the batch of 128 rows
  collects what they deliver. When all is waited for, the row buffer holds, at row `r`, the table's row that the list's
  entry `r` names.
-/
module

public import proofs.«01_k».proof.Proof.Setup

@[expose] public section

noncomputable section

namespace Cert.Proof.Gather

open Cert.KernelIdeal Cert.KernelIdeal.Gen Cert.Proof.Body Cert.Proof.GatherBatch
open Idealize.ShloMosaic
open Idealize.ShloMosaic.SparseCore (V rows gatherPayload)
open Idealize.ShloMosaic.SparseCore.Cfg (HIx)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## A view split into the blocks of a partition along one axis -/

section Blocks

variable (c : Thread nD τ) {sp : Space} {s : Shape} {e : EltTy} {a₀ : Fin s.rank} {n : ℕ}

theorem blocks_disjoint (v : View sig c.2.kind sp s e) (hn : n ∣ s.size a₀) (B : Fin n → Rect s) (hB : ∀ g, B g = Rect.part hn g) :
    ∀ g ∈ (Finset.univ : Finset (Fin n)), ∀ g' ∈ (Finset.univ : Finset (Fin n)), g ≠ g' → Disjoint (v.slice (B g)).set (v.slice (B g')).set := by
  intro g _ g' _ h
  rw [View.set_slice, View.set_slice, Finset.disjoint_map, hB, hB]
  exact Rect.part_disjoint hn h

theorem blocks_cover (v : View sig c.2.kind sp s e) (hn : n ∣ s.size a₀) (B : Fin n → Rect s) (hB : ∀ g, B g = Rect.part hn g) :
    (Finset.univ : Finset (Fin n)).biUnion (fun g => (v.slice (B g)).set) = v.set := by
  have h1 : (Finset.univ : Finset (Fin n)).biUnion (fun g => (B g).set) = Finset.univ :=
    (Finset.biUnion_congr rfl fun g _ => by rw [hB g]).trans (Rect.biUnion_part hn)
  ext i
  simp only [Finset.mem_biUnion, View.set_slice, Finset.mem_univ, true_and]
  constructor
  · rintro ⟨g, hg⟩
    obtain ⟨x, -, rfl⟩ := Finset.mem_map.mp hg
    exact Finset.mem_map_of_mem _ (Finset.mem_univ x)
  · intro hi
    obtain ⟨x, -, rfl⟩ := Finset.mem_map.mp hi
    obtain ⟨g, -, hg⟩ := Finset.mem_biUnion.mp (h1.symm ▸ Finset.mem_univ x)
    exact ⟨g, Finset.mem_map_of_mem _ hg⟩

/-- A view's elements are its blocks'. -/
theorem pointsTo_blocks (v : View sig c.2.kind sp s e) (hn : n ∣ s.size a₀) (B : Fin n → Rect s) (hB : ∀ g, B g = Rect.part hn g)
    (q : PosShare TreeShare) (f : Buf (Elt F) (v.loc c)) :
    (v.loc c ↦[v.set]{q} f : sProp 𝕄) = bigSep Finset.univ fun g => v.loc c ↦[(v.slice (B g)).set]{q} f := by
  rw [← pointsTo_biUnion Finset.univ (ℓ := v.loc c) (fun g => (v.slice (B g)).set) (blocks_disjoint c v hn B hB),
    blocks_cover c v hn B hB]

/-- The blocks each written with their own payload are the view written with the payload they are parts of. -/
theorem pointsTo_blocks_write (v : View sig c.2.kind sp s e) (hn : n ∣ s.size a₀) (B : Fin n → Rect s) (hB : ∀ g, B g = Rect.part hn g)
    (f : Buf (Elt F) (v.loc c)) (w : (g : Fin n) → (B g).shape.Idx → Elt F e) (W : s.Idx → Elt F e)
    (hW : ∀ g i, w g i = W ((B g).emb i)) :
    (bigSep Finset.univ fun g => v.loc c ↦[(v.slice (B g)).set]{fullShare} ((v.slice (B g)).write (Elt F) f (w g) Finset.univ))
      ⊢ (v.loc c ↦[v.set]{fullShare} (v.write (Elt F) f W Finset.univ) : sProp 𝕄) := by
  rw [pointsTo_blocks c v hn B hB]
  refine Entails.of_eq (bigSep_congr fun g _ => pointsTo_congr fun i hi => ?_)
  obtain ⟨x, -, rfl⟩ := Finset.mem_map.mp hi
  rw [View.write_emb_of_mem (v := v.slice (B g)) f (w g) (Finset.mem_univ x), hW g x]
  exact (View.write_emb_of_mem (v := v) f W (Finset.mem_univ ((B g).emb x))).symm

end Blocks

/-! ## The column blocks -/

theorem tabDiv : 16 ∣ S16384x2048.size 1 := ⟨128, rfl⟩
theorem rowsDiv : 16 ∣ S8x2048.size 1 := ⟨128, rfl⟩

abbrev tabRect (g : Fin 16) : Rect S16384x2048 := Rect.unit (s := S16384x2048) ![0, 128 * g.val] S16384x128.size (inbTab g)
abbrev rowsRect (g : Fin 16) : Rect S8x2048 := Rect.unit (s := S8x2048) ![0, 128 * g.val] S8x128.size (inbRows g)

theorem tabRect_eq (g : Fin 16) : tabRect g = Rect.part tabDiv g := by
  unfold tabRect Rect.part Rect.block
  congr 1 <;> funext a
  · match a with
    | 0 => simp [Shape.partIx, Shape.partSize]
    | 1 => simp [Shape.partIx, Shape.partSize]; omega
  · match a with
    | 0 => simp [Shape.partSize]
    | 1 => simp [Shape.partSize]
theorem rowsRect_eq (g : Fin 16) : rowsRect g = Rect.part rowsDiv g := by
  unfold rowsRect Rect.part Rect.block
  congr 1 <;> funext a
  · match a with
    | 0 => simp [Shape.partIx, Shape.partSize]
    | 1 => simp [Shape.partIx, Shape.partSize]; omega
  · match a with
    | 0 => simp [Shape.partSize]
    | 1 => simp [Shape.partSize]

/-! ## One half -/

section Half

variable [FloatOps F]
variable (d : Dev nD) (L : grid0.Coords)
variable (t : Memref sig .scVector .hbm S16384x2048 .f32) (r : Memref sig .scVector .vmem S8x2048 .f32) (ix : Memref sig .scVector .vmem S8 .i32)
variable (sem : DmaSem sig) (q qi : PosShare TreeShare)
variable (ft : Buf (Elt F) (t.view.loc (tile d L))) (fr : Buf (Elt F) (r.view.loc (tile d L))) (fo : Buf (Elt F) (ix.view.loc (tile d L)))

abbrev hgB : S16384x128.Gathers 0 S8x128 := gathers_S16384x128_S8x128

/-- Every entry of the list is a row of the table. -/
abbrev InRows : Prop := ∀ x, (ix.view.read (Elt F) fo x).toNat < 16384

/-- A row's credit. -/
abbrev rowCredit : ℕ := sig.dmaCredit .scVector (Kind.scVector.table .vmem) r.view.buf (S8x128.rowShape (hgB).axis') .f32

/-- What the half leaves in its row buffer: at row `x 0`, the table's row that entry `x 0` of the list names. -/
def fetched (hin : InRows d L ix fo) (x : S8x2048.Idx) : Elt F .f32 :=
  t.view.read (Elt F) ft (fun
    | 0 => ⟨(ix.view.read (Elt F) fo (fun | 0 => x 0)).toNat, hin _⟩
    | 1 => x 1)

/-- What one gather starts from: its block of the table's share, its block of the row buffer, its share of the list. -/
def need (g : Fin 16) : sProp 𝕄 :=
  iprop(((tabBlk t g).view.loc (tile d L) ↦[(tabBlk t g).view.set]{q} ft)
    ∗ ((rowBlk r g).view.loc (tile d L) ↦[(rowBlk r g).view.set]{fullShare} fr)
    ∗ (ix.view.loc (tile d L) ↦[ix.view.set]{pieceOf qi 16 (by decide) g} fo))

/-- What row `i` of gather `g` delivers. -/
def blockRow (hin : InRows d L ix fo) (g : Fin 16) (i : Fin 8) : sProp 𝕄 :=
  rowDelivery (tile d L) (tabBlk t g) (rowBlk r g) hgB ix rfl (by decide) q (pieceOf qi 16 (by decide) g) ft fr fo hin i

instance blockRow_storable (hin : InRows d L ix fo) (g : Fin 16) (i : Fin 8) :
    Storable (upEmb : UEmb _ 𝕄) (blockRow d L t r ix q qi ft fr fo hin g i) :=
  rowDelivery_storable (tile d L) (tabBlk t g) (rowBlk r g) hgB ix rfl (by decide) q (pieceOf qi 16 (by decide) g) ft fr fo hin i

/-- The half's batch: member `8 g + i` is row `i` of gather `g`. -/
def member (hin : InRows d L ix fo) (k : Fin (16 * 8)) : sProp 𝕄 :=
  blockRow d L t r ix q qi ft fr fo hin (finProdFinEquiv.symm k).1 (finProdFinEquiv.symm k).2

instance member_storable (hin : InRows d L ix fo) (k : Fin (16 * 8)) :
    Storable (upEmb : UEmb _ 𝕄) (member d L t r ix q qi ft fr fo hin k) := by
  unfold member; infer_instance

abbrev HalfBatch (hin : InRows d L ix fo) (j u : ℕ) : sProp 𝕄 :=
  Batch countersEmb (tile d L) (.dma sem) (default : HIx 1) (rowCredit r) (member d L t r ix q qi ft fr fo hin) j u

theorem blockRow_member (hin : InRows d L ix fo) (g : Fin 16) (i : Fin 8) (k : Fin (16 * 8)) (hk : k.val = 8 * g.val + i.val) :
    blockRow d L t r ix q qi ft fr fo hin g i = member d L t r ix q qi ft fr fo hin k := by
  have : k = finProdFinEquiv (g, i) := Fin.ext (by simp [finProdFinEquiv]; omega)
  unfold member; rw [this, Equiv.symm_apply_apply]

/-- The half's resources are its gathers'. -/
theorem need_split :
    iprop((t.view.loc (tile d L) ↦[t.view.set]{q} ft) ∗ (r.view.loc (tile d L) ↦[r.view.set]{fullShare} fr)
        ∗ (ix.view.loc (tile d L) ↦[ix.view.set]{qi} fo))
      = (bigSep Finset.univ (need d L t r ix q qi ft fr fo) : sProp 𝕄) := by
  unfold need
  rw [pointsTo_blocks (tile d L) t.view tabDiv tabRect tabRect_eq, pointsTo_blocks (tile d L) r.view rowsDiv rowsRect rowsRect_eq,
    pointsTo_piecesOf ix.view.set fo (o := 16) (by decide) qi]
  exact ((bigSep_sep' _ _ _).trans (congrArg _ (bigSep_sep' _ _ _))).symm

variable {α : Type} {Q : α → sProp (MT nD τ sig (HIx 1) (Elt F) ℕ UU ℕ)}

/-- STARTING the last `n` gathers. -/
theorem wp_issueBlocks (hin : InRows d L ix fo) : ∀ (n : ℕ) (h : n ≤ 16) (k : PUnit → tileProg F L α),
    iprop(bigSep (pending (n := 16) (16 - n)) (need d L t r ix q qi ft fr fo) ∗ HalfBatch d L t r ix sem q qi ft fr fo hin (8 * (16 - n)) 0)
      ⊢ iprop((HalfBatch d L t r ix sem q qi ft fr fo hin 128 0 -∗ wp frame (wpE (defs₀ (F := F)) 𝒱₀ (tile d L) none) Set.univ (k ⟨⟩) Q)
          -∗ wp frame (wpE (defs₀ (F := F)) 𝒱₀ (tile d L) none) Set.univ (issueBlocks L t r ix sem n h >>= k) Q)
  | 0, _, k => by
    iintro ⟨-, HB⟩ Hk
    iapply Hk; iexact HB
  | n + 1, h, k => by
    have ih := wp_issueBlocks hin n (by omega) k
    have hj : 16 - (n + 1) < 16 := by omega
    have hnext : 16 - (n + 1) + 1 = 16 - n := by omega
    have hb : blkAt n h = ⟨16 - (n + 1), hj⟩ := Fin.ext (by simp)
    rw [Transfers.bigSep_pending_step _ _ hj, hnext, ← hb]
    unfold issueBlocks
    rw [bind_assoc]
    unfold need
    iintro ⟨⟨⟨Ht, Hr, Hx⟩, Hrest⟩, HB⟩ Hk
    iapply (wp_gatherInBatch countersEmb 𝒱₀ (tile d L) none (hg := hgB) (default : HIx 1) (rowCredit r) (fun _ => rfl) (by decide)
      (by show 8 * (16 - (n + 1)) + 8 ≤ 16 * 8; omega) (Nat.zero_le _) hin
      (fun i => Entails.of_eq (blockRow_member d L t r ix q qi ft fr fo hin (blkAt n h) i _ (by simp)))) $$ [Ht Hr Hx HB]
    · isplitl [Ht]; · iexact Ht
      isplitl [Hr]; · iexact Hr
      isplitl [Hx]; · iexact Hx
      iexact HB
    iintro HB
    iapply ih $$ [Hrest HB]
    · isplitl [Hrest]; · iexact Hrest
      rw [show 8 * (16 - n) = 8 * (16 - (n + 1)) + 8 by omega]
      iexact HB
    iexact Hk

/-- WAITING the last `n` times: each wait takes eight rows' units off the semaphore. -/
theorem wp_awaitBlocks (hin : InRows d L ix fo) (O : CellTallies nD τ sig (HIx 1)) :
    ∀ (n : ℕ) (h : n ≤ 16) (W : Waits sig (HIx 1)) (k : PUnit → tileProg F L α),
    iprop(Transfers.MayWaits (tile d L) (default : HIx 1) O
        ∗ HalfBatch d L t r ix sem q qi ft fr fo hin 128 ((16 - n) * (8 * rowCredit r)) ∗ owes (tile d L) O W)
      ⊢ iprop((iprop(HalfBatch d L t r ix sem q qi ft fr fo hin 128 (rowCredit r * (16 * 8))
              ∗ ∃ W', ⌜∀ p ∈ W', p ∈ W ∨ p.2 = none⌝ ∗ owes (tile d L) O W')
            -∗ wp frame (wpE (defs₀ (F := F)) 𝒱₀ (tile d L) none) Set.univ (k ⟨⟩) Q)
          -∗ wp frame (wpE (defs₀ (F := F)) 𝒱₀ (tile d L) none) Set.univ (awaitBlocks L t r sem n h >>= k) Q)
  | 0, _, W, k => by
    iintro ⟨-, HB, HO⟩ Hk
    iapply Hk
    isplitl [HB]
    · rw [show (16 - 0) * (8 * rowCredit r) = rowCredit r * (16 * 8) by omega]; iexact HB
    iexists W; isplitr
    · ipureintro; exact fun p hp => .inl hp
    iexact HO
  | n + 1, h, W, k => by
    have ih := wp_awaitBlocks hin O n (by omega) (insert (SemLoc.dma sem, (default : HIx 1)) W) k
    unfold awaitBlocks
    rw [bind_assoc]
    iintro ⟨#Hmw, HB, HO⟩ Hk
    iapply (Transfers.wp_waitBatchMulO countersEmb 𝒱₀ (tile d L) none (default : HIx 1) (N := rowCredit r) 8
      (show (rowBlk r (blkAt n h)).view.dmaCredit = 8 * rowCredit r from rfl)
      (show (16 - (n + 1)) * (8 * rowCredit r) + 8 * rowCredit r ≤ rowCredit r * 128 by
        have : (16 - (n + 1)) * (8 * rowCredit r) + 8 * rowCredit r = (16 - (n + 1) + 1) * (8 * rowCredit r) := by rw [Nat.add_mul, Nat.one_mul]
        rw [this]
        calc (16 - (n + 1) + 1) * (8 * rowCredit r) ≤ 16 * (8 * rowCredit r) := Nat.mul_le_mul_right _ (by omega)
          _ = rowCredit r * 128 := by omega)) $$ [HB HO]
    · isplitl [HB]; · iexact HB
      isplitl [HO]; · iexact HO
      iapply (Transfers.MayWaits.elim (SemLoc.dma sem)) $$ Hmw
    iintro ⟨HB, HO⟩
    iapply ih $$ [HB HO]
    · isplitr; · iexact Hmw
      isplitl [HB]
      · rw [show (16 - n) * (8 * rowCredit r) = (16 - (n + 1)) * (8 * rowCredit r) + 8 * rowCredit r by
          rw [← Nat.succ_mul]; congr 1; omega]
        iexact HB
      iexact HO
    iintro ⟨HB, %W', %hW', HO⟩
    iapply Hk
    isplitl [HB]; · iexact HB
    iexists W'; isplitr
    · ipureintro; intro p hp
      rcases hW' p hp with hp | hp
      · rcases Finset.mem_insert.mp hp with hp | hp
        · exact .inr (hp ▸ rfl)
        · exact .inl hp
      · exact .inr hp
    iexact HO

/-- Entry `r` of a list of eight is at index `r`. -/
theorem entry8 : ∀ r : Fin 8, (S8.rowMajor.symm (Fin.cast (show 8 = S8.numel by decide) r) 0).val = r.val := by decide +kernel

/-- All the rows delivered: the row buffer holds what was fetched, and the table's share and the list are back. -/
theorem members_join (hin : InRows d L ix fo) :
    (bigSep Finset.univ (member d L t r ix q qi ft fr fo hin) : sProp 𝕄)
      ⊢ iprop((r.view.loc (tile d L) ↦[r.view.set]{fullShare} (r.view.write (Elt F) fr (fetched d L t ix ft fo hin) Finset.univ))
          ∗ (t.view.loc (tile d L) ↦[t.view.set]{q} ft) ∗ (ix.view.loc (tile d L) ↦[ix.view.set]{qi} fo)) := by
  rw [bigSep_univ_equiv (finProdFinEquiv (m := 16) (n := 8)), bigSep_univ_prod]
  have h : ∀ g : Fin 16, (bigSep Finset.univ fun i : Fin 8 => member d L t r ix q qi ft fr fo hin (finProdFinEquiv (g, i)))
      ⊢ (iprop(((rowBlk r g).view.loc (tile d L) ↦[(rowBlk r g).view.set]{fullShare}
            ((rowBlk r g).view.write (Elt F) fr (gatherPayload hgB ((tabBlk t g).view.read (Elt F) ft) (rows (ix.view.read (Elt F) fo) rfl hin)) Finset.univ))
          ∗ ((tabBlk t g).view.loc (tile d L) ↦[(tabBlk t g).view.set]{q} ft)
          ∗ (ix.view.loc (tile d L) ↦[ix.view.set]{pieceOf qi 16 (by decide) g} fo)) : sProp 𝕄) := fun g => by
    rw [bigSep_congr fun i _ => (blockRow_member d L t r ix q qi ft fr fo hin g i (finProdFinEquiv (g, i)) (by simp [finProdFinEquiv]; omega)).symm]
    exact rowDeliveries_join (tile d L) (tabBlk t g) (rowBlk r g) hgB ix rfl (by decide) q (pieceOf qi 16 (by decide) g) ft fr fo hin
  refine (bigSep_mono fun g _ => h g).trans ?_
  rw [bigSep_sep', bigSep_sep', pointsTo_blocks (tile d L) t.view tabDiv tabRect tabRect_eq,
    pointsTo_piecesOf ix.view.set fo (o := 16) (by decide) qi]
  refine BI.sep_mono ?_ (BI.Entails.refl _)
  refine pointsTo_blocks_write (tile d L) r.view rowsDiv rowsRect rowsRect_eq fr _ (fetched d L t ix ft fo hin) fun g i => ?_
  unfold gatherPayload fetched
  rw [show ∀ y, (tabBlk t g).view.read (Elt F) ft y = t.view.read (Elt F) ft ((tabRect g).emb y) from fun _ => rfl]
  congr 1
  funext a; apply Fin.ext
  match a with
  | 0 =>
    change 0 + 1 * (rows (ix.view.read (Elt F) fo) rfl hin (i 0)).val = _
    rw [Nat.zero_add, Nat.one_mul]
    change (ix.view.read (Elt F) fo _).toNat = (ix.view.read (Elt F) fo _).toNat
    congr 2
    funext b
    match b with
    | 0 =>
      apply Fin.ext
      change (S8.rowMajor.symm (Fin.cast _ (i 0)) 0).val = 0 + 1 * (i 0).val
      rw [Nat.zero_add, Nat.one_mul]
      exact entry8 (i 0)
  | 1 => rfl

/-- The half's gathers started, all sixteen. -/
theorem wp_startHalf (hin : InRows d L ix fo) (k : PUnit → tileProg F L α) :
    iprop((t.view.loc (tile d L) ↦[t.view.set]{q} ft) ∗ (r.view.loc (tile d L) ↦[r.view.set]{fullShare} fr)
        ∗ (ix.view.loc (tile d L) ↦[ix.view.set]{qi} fo) ∗ semVal (tile d L, .dma sem) 0)
      ⊢ iprop((HalfBatch d L t r ix sem q qi ft fr fo hin 128 0 -∗ wp frame (wpE (defs₀ (F := F)) 𝒱₀ (tile d L) none) Set.univ (k ⟨⟩) Q)
          -∗ wp frame (wpE (defs₀ (F := F)) 𝒱₀ (tile d L) none) Set.univ (issueBlocks L t r ix sem 16 (le_refl _) >>= k) Q) := by
  iintro ⟨Ht, Hr, Hx, Hv⟩ Hk
  imod (Transfers.batch_alloc' countersEmb (c := tile d L) (sm := .dma sem) (default : HIx 1) (rowCredit r)
    (member d L t r ix q qi ft fr fo hin) (E := Set.univ)) $$ Hv with HB
  ihave Hn := (Entails.of_eq (need_split d L t r ix q qi ft fr fo)) $$ [Ht Hr Hx]
  · isplitl [Ht]; · iexact Ht
    isplitl [Hr]; · iexact Hr
    iexact Hx
  ihave Hn' := (Entails.of_eq (Transfers.bigSep_pending_zero (need d L t r ix q qi ft fr fo))) $$ Hn
  iapply (wp_issueBlocks d L t r ix sem q qi ft fr fo hin 16 (le_refl _) k) $$ [Hn' HB]
  · isplitl [Hn']; · iexact Hn'
    iexact HB
  iexact Hk

/-- The half's gathers waited for, all sixteen: the row buffer holds what was fetched. -/
theorem wp_endHalf (hin : InRows d L ix fo) (O : CellTallies nD τ sig (HIx 1)) (W : Waits sig (HIx 1)) (k : PUnit → tileProg F L α) :
    iprop(Transfers.MayWaits (tile d L) (default : HIx 1) O
        ∗ HalfBatch d L t r ix sem q qi ft fr fo hin 128 0 ∗ owes (tile d L) O W)
      ⊢ iprop((iprop((r.view.loc (tile d L) ↦[r.view.set]{fullShare} (r.view.write (Elt F) fr (fetched d L t ix ft fo hin) Finset.univ))
              ∗ (t.view.loc (tile d L) ↦[t.view.set]{q} ft) ∗ (ix.view.loc (tile d L) ↦[ix.view.set]{qi} fo)
              ∗ semVal (tile d L, .dma sem) 0 ∗ ∃ W', ⌜∀ p ∈ W', p ∈ W ∨ p.2 = none⌝ ∗ owes (tile d L) O W')
            -∗ wp frame (wpE (defs₀ (F := F)) 𝒱₀ (tile d L) none) Set.univ (k ⟨⟩) Q)
          -∗ wp frame (wpE (defs₀ (F := F)) 𝒱₀ (tile d L) none) Set.univ (awaitBlocks L t r sem 16 (le_refl _) >>= k) Q) := by
  iintro ⟨#Hmw, HB, HO⟩ Hk
  iapply (wp_awaitBlocks d L t r ix sem q qi ft fr fo hin O 16 (le_refl _) W k) $$ [HB HO]
  · isplitr; · iexact Hmw
    isplitl [HB]; · rw [Nat.sub_self, Nat.zero_mul]; iexact HB
    iexact HO
  iintro ⟨HB, HO⟩
  imod (Transfers.batch_collect' countersEmb (tile d L) (show 0 < rowCredit r from sig.dmaCredit_pos _ _ _ _ _ (by decide))) $$ HB with ⟨HD, Hv⟩
  ihave HJ := (members_join d L t r ix q qi ft fr fo hin) $$ HD
  icases HJ with ⟨Hr, Ht, Hx⟩
  iapply Hk
  isplitl [Hr]; · iexact Hr
  isplitl [Ht]; · iexact Ht
  isplitl [Hx]; · iexact Hx
  isplitl [Hv]; · iexact Hv
  iexact HO

end Half

end Cert.Proof.Gather

end
-- ==== Proof.Values.lean ====
/-
  What the call computes, and where a tile's lists and blocks lie.

  The 256 row numbers are a constant; number `64 b + k` names the table row that goes to place `k` of batch `b` of the
  result. Tile `j` has the sixteen numbers from `16 j` on, as two lists of eight, and its two blocks of eight rows of the
  result are the places those sixteen numbers go to.
-/
module

public import proofs.«01_k».proof.Proof.Setup
public import Idealize.ShloMosaic.Lib.ValueLayout

@[expose] public section

noncomputable section

namespace Cert.Proof.Gather

open Cert.KernelIdeal Cert.KernelIdeal.Gen Cert.Proof.Body
open Idealize.ShloMosaic Idealize.ShloMosaic.ValueIdx

/-! ## The result -/

/-- Every row number is a row of the table. -/
theorem lit_lt : ∀ k, (lit0 k).toNat < 16384 := by decide +kernel

/-- The array of lists. -/
def lists (i : S16x2x8.Idx) : BitVec 32 := lit0 (S16x2x8.rowMajor i)

/-- The number of the place `(b, k)`. -/
abbrev place (x : S4x64x2048.Idx) : Fin 256 :=
  ⟨64 * (x 0).val + (x 1).val, by have h0 : (x 0).val < 4 := (x 0).isLt; have h1 : (x 1).val < 64 := (x 1).isLt; omega⟩

/-- The result of the call on the table `tab`. -/
def outOf {α : Type} (tab : S16384x2048.Idx → α) (x : S4x64x2048.Idx) : α :=
  tab (ix2 ⟨(lit0 (place x)).toNat, lit_lt _⟩ (x 2))

/-! ## Where a tile's lists and blocks lie -/

theorem off3_eq : ∀ i : grid0.Coords, k0_off3 i = ![(i 1).val / 4, 16 * ((i 1).val % 4), 0] := by decide +kernel
theorem off4_eq : ∀ i : grid0.Coords, k0_off4 i = ![(i 1).val / 4, 16 * ((i 1).val % 4) + 8, 0] := by decide +kernel

variable (L : grid0.Coords)

theorem list0_emb (x : S8.Idx) : S16x2x8.rowMajor ((list0 L lstM).view.emb x) = ⟨16 * (jL L).val + (x 0).val, by
    have := (jL L).isLt; have h : (x 0).val < 8 := (x 0).isLt; show _ < 256; omega⟩ := by
  apply Fin.ext
  change (S16x2x8.rowMajor ((Rect.unit (s := S16x2x8) (k0_off1 L) S1x1x8.size (k0_off1_inb L)).emb (Shape.reshapeEquiv _ x))).val = _
  rw [Shape.reshapeEquiv_eq_of_rowMajor (s := S1x1x8) (y := ix3 (0 : Fin 1) (0 : Fin 1) (x 0)) _ (by
    rw [Shape.rowMajor_val_three, Shape.rowMajor_val_one]; show (0 * 1 + 0) * 8 + (x 0).val = (x 0).val; omega), Shape.rowMajor_val_three]
  simp only [Rect.emb_apply, k0_off1_eq]
  show (((L 1).val + 1 * 0) * 2 + (0 + 1 * 0)) * 8 + (0 + 1 * (x 0).val) = 16 * (L 1).val + (x 0).val
  omega

theorem list1_emb (x : S8.Idx) : S16x2x8.rowMajor ((list1 L lstM).view.emb x) = ⟨16 * (jL L).val + 8 + (x 0).val, by
    have := (jL L).isLt; have h : (x 0).val < 8 := (x 0).isLt; show _ < 256; omega⟩ := by
  apply Fin.ext
  change (S16x2x8.rowMajor ((Rect.unit (s := S16x2x8) (k0_off2 L) S1x1x8.size (k0_off2_inb L)).emb (Shape.reshapeEquiv _ x))).val = _
  rw [Shape.reshapeEquiv_eq_of_rowMajor (s := S1x1x8) (y := ix3 (0 : Fin 1) (0 : Fin 1) (x 0)) _ (by
    rw [Shape.rowMajor_val_three, Shape.rowMajor_val_one]; show (0 * 1 + 0) * 8 + (x 0).val = (x 0).val; omega), Shape.rowMajor_val_three]
  simp only [Rect.emb_apply, k0_off2_eq]
  show (((L 1).val + 1 * 0) * 2 + (1 + 1 * 0)) * 8 + (0 + 1 * (x 0).val) = 16 * (L 1).val + 8 + (x 0).val
  omega

theorem out0_emb (x : S8x2048.Idx) (a : Fin 3) : ((outBlk0 L outM).view.emb x a).val
    = (![(L 1).val / 4, 16 * ((L 1).val % 4) + (x 0).val, (x 1).val] : Fin 3 → ℕ) a := by
  change ((Rect.unit (s := S4x64x2048) (k0_off3 L) S1x8x2048.size (k0_off3_inb L)).emb (Shape.reshapeEquiv _ x) a).val = _
  rw [Shape.reshapeEquiv_eq_of_rowMajor (s := S1x8x2048) (y := ix3 (0 : Fin 1) (x 0) (x 1)) _ (by
    rw [Shape.rowMajor_val_three, Shape.rowMajor_val_two]; show (0 * 8 + (x 0).val) * 2048 + (x 1).val = (x 0).val * 2048 + (x 1).val; omega)]
  simp only [Rect.emb_apply, off3_eq]
  match a with
  | 0 => show (L 1).val / 4 + 1 * 0 = (L 1).val / 4; omega
  | 1 => show 16 * ((L 1).val % 4) + 1 * (x 0).val = 16 * ((L 1).val % 4) + (x 0).val; omega
  | 2 => show 0 + 1 * (x 1).val = (x 1).val; omega

theorem out1_emb (x : S8x2048.Idx) (a : Fin 3) : ((outBlk1 L outM).view.emb x a).val
    = (![(L 1).val / 4, 16 * ((L 1).val % 4) + 8 + (x 0).val, (x 1).val] : Fin 3 → ℕ) a := by
  change ((Rect.unit (s := S4x64x2048) (k0_off4 L) S1x8x2048.size (k0_off4_inb L)).emb (Shape.reshapeEquiv _ x) a).val = _
  rw [Shape.reshapeEquiv_eq_of_rowMajor (s := S1x8x2048) (y := ix3 (0 : Fin 1) (x 0) (x 1)) _ (by
    rw [Shape.rowMajor_val_three, Shape.rowMajor_val_two]; show (0 * 8 + (x 0).val) * 2048 + (x 1).val = (x 0).val * 2048 + (x 1).val; omega)]
  simp only [Rect.emb_apply, off4_eq]
  match a with
  | 0 => show (L 1).val / 4 + 1 * 0 = (L 1).val / 4; omega
  | 1 => show 16 * ((L 1).val % 4) + 8 + 1 * (x 0).val = 16 * ((L 1).val % 4) + 8 + (x 0).val; omega
  | 2 => show 0 + 1 * (x 1).val = (x 1).val; omega

/-! ## The result's thirty-two blocks of eight rows -/

/-- Block `b` of the result: the places numbered from `8 b` on. -/
def outSet (b : Fin (16 * 2)) : Finset S4x64x2048.Idx := Finset.univ.filter fun x => (place x).val / 8 = b.val

theorem outSet_disjoint : ∀ b ∈ (Finset.univ : Finset (Fin (16 * 2))), ∀ b' ∈ (Finset.univ : Finset (Fin (16 * 2))), b ≠ b' →
    Disjoint (outSet b) (outSet b') := by
  intro b _ b' _ h
  refine Finset.disjoint_left.mpr fun x hx hx' => h (Fin.ext ?_)
  exact (Finset.mem_filter.mp hx).2.symm.trans (Finset.mem_filter.mp hx').2

theorem outSet_cover : (Finset.univ : Finset (Fin (16 * 2))).biUnion outSet = Finset.univ := by
  ext x
  simp only [Finset.mem_biUnion, Finset.mem_univ, true_and, iff_true]
  exact ⟨⟨(place x).val / 8, by have := (place x).isLt; omega⟩, Finset.mem_filter.mpr ⟨Finset.mem_univ _, rfl⟩⟩

/-- The two blocks tile `j` writes. -/
abbrev blk0 (j : Fin 16) : Fin (16 * 2) := finProdFinEquiv (j, (0 : Fin 2))
abbrev blk1 (j : Fin 16) : Fin (16 * 2) := finProdFinEquiv (j, (1 : Fin 2))

theorem set_outBlk0 : (outBlk0 L outM).view.set = outSet (blk0 (jL L)) := by
  ext y
  rw [outSet, Finset.mem_filter]
  constructor
  · intro hy
    obtain ⟨x, -, rfl⟩ := Finset.mem_map.mp hy
    refine ⟨Finset.mem_univ _, ?_⟩
    have h0 := out0_emb L x 0; have h1 := out0_emb L x 1
    have hx : (x 0).val < 8 := (x 0).isLt
    have hj : (L 1).val < 16 := (L 1).isLt
    simp [finProdFinEquiv] at h0 h1 ⊢
    omega
  · rintro ⟨-, hy⟩
    have hy0 : (y 0).val < 4 := (y 0).isLt
    have hy1 : (y 1).val < 64 := (y 1).isLt
    have hj : (L 1).val < 16 := (L 1).isLt
    simp [finProdFinEquiv] at hy
    refine Finset.mem_map.mpr ⟨ix2 ⟨(y 1).val % 8, by omega⟩ (y 2), Finset.mem_univ _, ?_⟩
    funext a; apply Fin.ext
    rw [out0_emb]
    match a with
    | 0 => show (L 1).val / 4 = (y 0).val; omega
    | 1 => show 16 * ((L 1).val % 4) + (y 1).val % 8 = (y 1).val; omega
    | 2 => rfl

theorem set_outBlk1 : (outBlk1 L outM).view.set = outSet (blk1 (jL L)) := by
  ext y
  rw [outSet, Finset.mem_filter]
  constructor
  · intro hy
    obtain ⟨x, -, rfl⟩ := Finset.mem_map.mp hy
    refine ⟨Finset.mem_univ _, ?_⟩
    have h0 := out1_emb L x 0; have h1 := out1_emb L x 1
    have hx : (x 0).val < 8 := (x 0).isLt
    have hj : (L 1).val < 16 := (L 1).isLt
    simp [finProdFinEquiv] at h0 h1 ⊢
    omega
  · rintro ⟨-, hy⟩
    have hy0 : (y 0).val < 4 := (y 0).isLt
    have hy1 : (y 1).val < 64 := (y 1).isLt
    have hj : (L 1).val < 16 := (L 1).isLt
    simp [finProdFinEquiv] at hy
    refine Finset.mem_map.mpr ⟨ix2 ⟨(y 1).val % 8, by omega⟩ (y 2), Finset.mem_univ _, ?_⟩
    funext a; apply Fin.ext
    rw [out1_emb]
    match a with
    | 0 => show (L 1).val / 4 = (y 0).val; omega
    | 1 => show 16 * ((L 1).val % 4) + 8 + (y 1).val % 8 = (y 1).val; omega
    | 2 => rfl

/-- At an element of the tile's first block the result is the table's row that the first list names for it; -/
theorem outOf_blk0 {α : Type} (tab : S16384x2048.Idx → α) (x : S8x2048.Idx) :
    outOf tab ((outBlk0 L outM).view.emb x)
      = tab (ix2 ⟨(lists ((list0 L lstM).view.emb (ix1 (x 0)))).toNat, lit_lt _⟩ (x 1)) := by
  unfold outOf lists
  have h0 := out0_emb L x 0; have h1 := out0_emb L x 1; have h2 := out0_emb L x 2
  have hj : (L 1).val < 16 := (L 1).isLt
  have hp : place ((outBlk0 L outM).view.emb x) = S16x2x8.rowMajor ((list0 L lstM).view.emb (ix1 (x 0))) := by
    rw [list0_emb]; apply Fin.ext
    show 64 * _ + _ = 16 * (L 1).val + (x 0).val
    rw [h0, h1]
    show 64 * ((L 1).val / 4) + (16 * ((L 1).val % 4) + (x 0).val) = _
    omega
  congr 2
  · apply Fin.ext; show (lit0 _).toNat = (lit0 _).toNat; rw [hp]
  · exact Fin.ext h2
/-- of its second block, the second list. -/
theorem outOf_blk1 {α : Type} (tab : S16384x2048.Idx → α) (x : S8x2048.Idx) :
    outOf tab ((outBlk1 L outM).view.emb x)
      = tab (ix2 ⟨(lists ((list1 L lstM).view.emb (ix1 (x 0)))).toNat, lit_lt _⟩ (x 1)) := by
  unfold outOf lists
  have h0 := out1_emb L x 0; have h1 := out1_emb L x 1; have h2 := out1_emb L x 2
  have hj : (L 1).val < 16 := (L 1).isLt
  have hp : place ((outBlk1 L outM).view.emb x) = S16x2x8.rowMajor ((list1 L lstM).view.emb (ix1 (x 0))) := by
    rw [list1_emb]; apply Fin.ext
    show 64 * _ + _ = 16 * (L 1).val + 8 + (x 0).val
    rw [h0, h1]
    show 64 * ((L 1).val / 4) + (16 * ((L 1).val % 4) + 8 + (x 0).val) = _
    omega
  congr 2
  · apply Fin.ext; show (lit0 _).toNat = (lit0 _).toNat; rw [hp]
  · exact Fin.ext h2

end Cert.Proof.Gather

end
-- ==== Proof.Tile.lean ====
/-
  The task of one tile: its two lists fetched, its two halves gathered, its two blocks of the result written.
-/
module

public import proofs.«01_k».proof.Proof.Gathers
public import proofs.«01_k».proof.Proof.Values

@[expose] public section

noncomputable section

namespace Cert.Proof.Gather

open Cert.KernelIdeal Cert.KernelIdeal.Gen Cert.Proof.Body Cert.Proof.GatherBatch
open Idealize.ShloMosaic Idealize.ShloMosaic.ValueIdx
open Idealize.ShloMosaic.SparseCore (V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords)

/-! ## What the tile owns: six semaphores and four buffers -/

abbrev cell (s : DmaSems sig S_) : GSem nD τ sig := (tile d L, .dma s.sem)

/-- A semaphore number is not another. -/
theorem cell_ne {s s' : DmaSems sig S_} (h : s.sem ≠ s'.sem) : cell d L s ≠ cell d L s' := fun e =>
  h (by have := congrArg Prod.snd e; exact SemLoc.dma.inj this)

theorem ownSems0_tile :
    (ownSems0 (tile d L) : sProp 𝕄)
      = iprop(semVal (cell d L cc0_scratch4) 0 ∗ semVal (cell d L cc0_scratch5) 0 ∗ semVal (cell d L cc0_scratch6) 0
          ∗ semVal (cell d L cc0_scratch7) 0 ∗ semVal (cell d L cc0_scratch8) 0 ∗ semVal (cell d L cc0_scratch9) 0
          ∗ bigSep (((((((ownCells (tile d L)).erase (cell d L cc0_scratch4)).erase (cell d L cc0_scratch5)).erase (cell d L cc0_scratch6)).erase
              (cell d L cc0_scratch7)).erase (cell d L cc0_scratch8)).erase (cell d L cc0_scratch9)) fun g => semVal g 0) := by
  have hm : ∀ s : DmaSems sig S_, (SemLoc.dma s.sem : SemLoc sig).isScoped .scVector = true → cell d L s ∈ ownCells (tile d L) :=
    fun s h => mem_ownCells.mpr ⟨rfl, h⟩
  unfold SparseCore.Cfg.ownSems0
  rw [SparseCore.bigSep_erase' (hm cc0_scratch4 (by decide)),
    SparseCore.bigSep_erase' (Finset.mem_erase.mpr ⟨cell_ne d L (by decide), hm cc0_scratch5 (by decide)⟩),
    SparseCore.bigSep_erase' (Finset.mem_erase.mpr ⟨cell_ne d L (by decide), Finset.mem_erase.mpr ⟨cell_ne d L (by decide), hm cc0_scratch6 (by decide)⟩⟩),
    SparseCore.bigSep_erase' (Finset.mem_erase.mpr ⟨cell_ne d L (by decide), Finset.mem_erase.mpr ⟨cell_ne d L (by decide),
      Finset.mem_erase.mpr ⟨cell_ne d L (by decide), hm cc0_scratch7 (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), hm cc0_scratch8 (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), hm cc0_scratch9 (by decide)⟩⟩⟩⟩⟩)]

/-- The tile's name for its own buffer `b`. -/
abbrev own (b : Ref sig .scVector) : DevRef τ sig := (Proc.scVector (cV L) (jV L)).devRef b

theorem own_ne {b b' : Ref sig .scVector} (h : b ≠ b') : own L b ≠ own L b' := fun e => h (Proc.devRef_injective _ e)

theorem ownBufs_tile :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ bigSep (((((ownRefs (τ := τ) (.scVector (cV L) (jV L))).erase (own L cc0_scratch0)).erase (own L cc0_scratch1)).erase
              (own L cc0_scratch2)).erase (own L cc0_scratch3))
              fun b => iprop(∃ f, ((d, b) : Loc nD τ sig) ↦{fullShare} f)) := by
  have hm : ∀ b : Ref sig .scVector, (own L b).owner = .proc (.scVector (cV L) (jV L)) → own L b ∈ ownRefs (τ := τ) (.scVector (cV L) (jV L)) :=
    fun b h => SparseCore.Cfg.mem_ownRefs_of_owner (p := Proc.scVector (cV L) (jV L)) (b := own L b) h
  unfold SparseCore.Cfg.ownBufs
  refine (SparseCore.bigSep_erase' (hm cc0_scratch0 rfl)).trans ?_
  rw [SparseCore.bigSep_erase' (Finset.mem_erase.mpr ⟨own_ne L (by decide), hm cc0_scratch1 rfl⟩),
    SparseCore.bigSep_erase' (Finset.mem_erase.mpr ⟨own_ne L (by decide), Finset.mem_erase.mpr ⟨own_ne L (by decide), hm cc0_scratch2 rfl⟩⟩),
    SparseCore.bigSep_erase' (Finset.mem_erase.mpr ⟨own_ne L (by decide), Finset.mem_erase.mpr ⟨own_ne L (by decide),
      Finset.mem_erase.mpr ⟨own_ne L (by decide), hm cc0_scratch3 rfl⟩⟩⟩)]

/-! ## The task -/

variable [FloatOps F]

/-- What a tile is handed and, at `fo`'s final value, hands back: its share of the lists and of the table, and its two
    blocks of the result. -/
def task (q : PosShare TreeShare) (ft : Buf (Elt F) (tLoc d)) (j : Fin 16) (fo : Buf (Elt F) (oLoc d)) : sProp 𝕄 :=
  iprop((cLoc d ↦{q} (lists : Buf (Elt F) (cLoc d))) ∗ (tLoc d ↦{q} ft)
    ∗ (oLoc d ↦[outSet (blk0 j)]{fullShare} fo) ∗ (oLoc d ↦[outSet (blk1 j)]{fullShare} fo))

/-- A view written whole reads as what was written. -/
theorem read_writes_whole {sp : Space} {s : Shape} {e : EltTy} (v : View sig .scVector sp s e) (f : v.ty.Contents (Elt F)) (w : s.Idx → Elt F e) :
    v.read (Elt F) (v.writes (Elt F) f [⟨Rect.whole s, w⟩]) = w := by
  funext x
  exact View.read_writes_cons_hit_of_coords v f (Rect.whole s) w [] x x fun a => by simp [Rect.whole]

/-- The first list, fetched, names rows of the table. -/
theorem inRows_list0 (f : Buf (Elt F) ((tile d L).loc cc0_scratch0)) :
    InRows d L ixM0 (ixM0.view.writes (Elt F) f [⟨Rect.whole S8, (list0 L lstM).view.read (Elt F) (lists : Buf (Elt F) (cLoc d))⟩]) := by
  intro x
  rw [read_writes_whole]
  exact lit_lt _

theorem inRows_list1 (f : Buf (Elt F) ((tile d L).loc cc0_scratch1)) :
    InRows d L ixM1 (ixM1.view.writes (Elt F) f [⟨Rect.whole S8, (list1 L lstM).view.read (Elt F) (lists : Buf (Elt F) (cLoc d))⟩]) := by
  intro x
  rw [read_writes_whole]
  exact lit_lt _

/-- What was fetched through the first list is the first block of the result, row for row; -/
theorem fetched_blk0 (ft : Buf (Elt F) (tLoc d)) (f : Buf (Elt F) ((tile d L).loc cc0_scratch0)) (x : S8x2048.Idx) :
    fetched d L tabM ixM0 ft _ (inRows_list0 d L f) x = outOf (α := Elt F .f32) ft ((outBlk0 L outM).view.emb x) := by
  rw [outOf_blk0]
  unfold fetched
  show (View.whole (main_v0_scv : Ref sig .scVector)).read (Elt F) ft _ = _
  rw [View.read_whole]
  refine congrArg ft ?_
  funext a
  match a with
  | 0 => exact Fin.ext (congrArg BitVec.toNat ((congrFun (read_writes_whole ixM0.view f _) _).trans
      (congrArg (fun y => lists ((list0 L lstM).view.emb y)) (funext fun | 0 => rfl))))
  | 1 => rfl

/-- and through the second list the second. -/
theorem fetched_blk1 (ft : Buf (Elt F) (tLoc d)) (f : Buf (Elt F) ((tile d L).loc cc0_scratch1)) (x : S8x2048.Idx) :
    fetched d L tabM ixM1 ft _ (inRows_list1 d L f) x = outOf (α := Elt F .f32) ft ((outBlk1 L outM).view.emb x) := by
  rw [outOf_blk1]
  unfold fetched
  show (View.whole (main_v0_scv : Ref sig .scVector)).read (Elt F) ft _ = _
  rw [View.read_whole]
  refine congrArg ft ?_
  funext a
  match a with
  | 0 => exact Fin.ext (congrArg BitVec.toNat ((congrFun (read_writes_whole ixM1.view f _) _).trans
      (congrArg (fun y => lists ((list1 L lstM).view.emb y)) (funext fun | 0 => rfl))))
  | 1 => rfl

/-- A block of the result written whole with `w` agrees with `G` on the block, where `w` does. -/
theorem written_eq (v : Memref sig .scVector .hbm S8x2048 .f32) (hv : v.view.loc (tile d L) = oLoc d) (f : v.view.ty.Contents (Elt F)) (w : S8x2048.Idx → Elt F .f32)
    (G : v.view.ty.Contents (Elt F)) (h : ∀ x, w x = v.view.read (Elt F) G x) : ∀ i ∈ v.view.set, v.view.writes (Elt F) f [⟨Rect.whole S8x2048, w⟩] i = G i := by
  intro i hi
  obtain ⟨x, -, rfl⟩ := Finset.mem_map.mp hi
  have e := (congrFun (read_writes_whole v.view f w) x).trans (h x)
  rw [View.read_apply, View.read_apply] at e
  exact (cast_bijective _).injective e

/-- What the first half's write-out carries is the first block's part of the result; -/
theorem carried0 (ft : Buf (Elt F) (tLoc d)) (f : Buf (Elt F) ((tile d L).loc cc0_scratch0)) (fr : Buf (Elt F) ((tile d L).loc cc0_scratch2)) (x : S8x2048.Idx) :
    rowM0.view.read (Elt F) (rowM0.view.write (Elt F) fr (fetched d L tabM ixM0 ft _ (inRows_list0 d L f)) Finset.univ) x
      = (outBlk0 L outM).view.read (Elt F) (outOf (α := Elt F .f32) ft) x := by
  rw [View.read_write_univ, fetched_blk0, View.read_apply]; rfl

/-- what the second half's carries is the second's. -/
theorem carried1 (ft : Buf (Elt F) (tLoc d)) (f : Buf (Elt F) ((tile d L).loc cc0_scratch1)) (fr : Buf (Elt F) ((tile d L).loc cc0_scratch3)) (x : S8x2048.Idx) :
    rowM1.view.read (Elt F) (rowM1.view.write (Elt F) fr (fetched d L tabM ixM1 ft _ (inRows_list1 d L f)) Finset.univ) x
      = (outBlk1 L outM).view.read (Elt F) (outOf (α := Elt F .f32) ft) x := by
  rw [View.read_write_univ, fetched_blk1, View.read_apply]; rfl

/-- A buffer held through a memref that covers it is held. -/
theorem held {sp : Space} {s : Shape} {e : EltTy} (v : Memref sig .scVector sp s e) (hv : v.view.set = Finset.univ) (f : Buf (Elt F) (v.view.loc (tile d L))) :
    (v.view.loc (tile d L) ↦[v.view.set]{fullShare} f : sProp 𝕄) ⊢ iprop(∃ f, v.view.loc (tile d L) ↦{fullShare} f) := by
  rw [hv]; iintro H; iexists f; iexact H

set_option maxHeartbeats 4000000 in
/-- The task of the tile at `L`: from its shares of the lists and of the table and its two blocks of the result, whatever
    they hold, it comes back with the shares and with the blocks holding the rows of the table the lists name. -/
theorem tile_body (hF : (K (F := F)).Facts) (q : PosShare TreeShare) (ft : Buf (Elt F) (tLoc d)) (fo : Buf (Elt F) (oLoc d))
    (O : CellTallies nD τ sig (HIx 1)) (W : Waits sig (HIx 1)) (hO : ∀ g, O g none = 0) :
    iprop(levAts (K (F := F)).L (K (F := F)).lev ∗ emp ∗ task d q ft (jL L) fo
        ∗ scopedBufs (tile d L) ∗ scopedSems0 (tile d L) ∗ owes (tile d L) O W)
      ⊢ wp frame (wpE (defs₀ (F := F)) 𝒱₀ (tile d L) none) Set.univ
          (cc0_gather_rows L tabM (Memref.isWhole_whole _) lstM (Memref.isWhole_whole _) outM (Memref.isWhole_whole _)
            ixM0 (Memref.isWhole_whole _) ixM1 (Memref.isWhole_whole _) rowM0 (Memref.isWhole_whole _) rowM1 (Memref.isWhole_whole _)
            cc0_scratch4 cc0_scratch5 cc0_scratch6 cc0_scratch7 cc0_scratch8 cc0_scratch9)
          fun _ => iprop(task d q ft (jL L) (outOf (α := Elt F .f32) ft) ∗ scopedBufs (tile d L) ∗ scopedSems0 (tile d L)
            ∗ ∃ W', ⌜∀ p ∈ W', p ∈ W ∨ p.2 = none⌝ ∗ owes (tile d L) O W') := by
  rw [body_eq]; unfold tileProgram task
  rw [(K (F := F)).scopedBufs_V hF d (cV L) (jV L), SparseCore.Cfg.scopedSems0_V (Val := Elt F) d (cV L) (jV L), ownSems0_tile, ownBufs_tile]
  iintro ⟨#Hlv, -, ⟨Hc, Ht, Ho0, Ho1⟩, ⟨⟨%fi0, Hi0⟩, ⟨%fi1, Hi1⟩, ⟨%fr0, Hr0⟩, ⟨%fr1, Hr1⟩, Hbufs⟩, ⟨Hv0, Hv1, Hv2, Hv3, Hv4, Hv5, Hsems⟩, HO⟩
  ihave Hmw := (show levAts (K (F := F)).L (K (F := F)).lev ⊢ Transfers.MayWaits (tile d L) (default : HIx 1) O from
    (K (F := F)).mayWaits_none (thr := tile d L) hO) $$ Hlv
  icases Hmw with #Hmw
  ihave Hcs := (pointsTo_share (PosShare.mem_left_op_right q)).1 $$ Hc
  icases Hcs with ⟨Hc0, Hc1⟩
  ihave Hts := (pointsTo_share (PosShare.mem_left_op_right q)).1 $$ Ht
  icases Hts with ⟨Ht0, Ht1⟩
  ihave Hcs0 := (pointsTo_split_subset (Finset.subset_univ (list0 L lstM).view.set)).1 $$ Hc0
  icases Hcs0 with ⟨Hc0, Hc0r⟩
  ihave Hcs1 := (pointsTo_split_subset (Finset.subset_univ (list1 L lstM).view.set)).1 $$ Hc1
  icases Hcs1 with ⟨Hc1, Hc1r⟩
  ihave Hi0 := (Entails.of_eq (show ((tile d L).loc cc0_scratch0 ↦{fullShare} fi0 : sProp 𝕄) = ixM0.view.loc (tile d L) ↦[ixM0.view.set]{fullShare} fi0 by
    rw [show ixM0.view.set = Finset.univ from View.set_whole _])) $$ Hi0
  ihave Hi1 := (Entails.of_eq (show ((tile d L).loc cc0_scratch1 ↦{fullShare} fi1 : sProp 𝕄) = ixM1.view.loc (tile d L) ↦[ixM1.view.set]{fullShare} fi1 by
    rw [show ixM1.view.set = Finset.univ from View.set_whole _])) $$ Hi1
  ihave Hr0 := (Entails.of_eq (show ((tile d L).loc cc0_scratch2 ↦{fullShare} fr0 : sProp 𝕄) = rowM0.view.loc (tile d L) ↦[rowM0.view.set]{fullShare} fr0 by
    rw [show rowM0.view.set = Finset.univ from View.set_whole _])) $$ Hr0
  ihave Hr1 := (Entails.of_eq (show ((tile d L).loc cc0_scratch3 ↦{fullShare} fr1 : sProp 𝕄) = rowM1.view.loc (tile d L) ↦[rowM1.view.set]{fullShare} fr1 by
    rw [show rowM1.view.set = Finset.univ from View.set_whole _])) $$ Hr1
  ihave Ht0 := (Entails.of_eq (show (tLoc d ↦{q.left} ft : sProp 𝕄) = tabM.view.loc (tile d L) ↦[tabM.view.set]{q.left} ft by
    rw [show tabM.view.set = Finset.univ from View.set_whole _])) $$ Ht0
  ihave Ht1 := (Entails.of_eq (show (tLoc d ↦{q.right} ft : sProp 𝕄) = tabM.view.loc (tile d L) ↦[tabM.view.set]{q.right} ft by
    rw [show tabM.view.set = Finset.univ from View.set_whole _])) $$ Ht1
  ihave Hc0 := (Entails.of_eq (show _ = ((list0 L lstM).view.loc (tile d L) ↦[(list0 L lstM).view.set]{q.left} (lists : Buf (Elt F) (cLoc d)) : sProp 𝕄) from rfl)) $$ Hc0
  ihave Hc1 := (Entails.of_eq (show _ = ((list1 L lstM).view.loc (tile d L) ↦[(list1 L lstM).view.set]{q.right} (lists : Buf (Elt F) (cLoc d)) : sProp 𝕄) from rfl)) $$ Hc1
  ihave Ho0 := (Entails.of_eq (show (oLoc d ↦[outSet (blk0 (jL L))]{fullShare} fo : sProp 𝕄)
    = (outBlk0 L outM).view.loc (tile d L) ↦[(outBlk0 L outM).view.set]{fullShare} fo by rw [set_outBlk0])) $$ Ho0
  ihave Ho1 := (Entails.of_eq (show (oLoc d ↦[outSet (blk1 (jL L))]{fullShare} fo : sProp 𝕄)
    = (outBlk1 L outM).view.loc (tile d L) ↦[(outBlk1 L outM).view.set]{fullShare} fo by rw [set_outBlk1])) $$ Ho1
  generalize hA0 : issueBlocks (F := F) L tabM rowM0 ixM0 cc0_scratch6.sem 16 (le_refl _) = A0
  generalize hA1 : issueBlocks (F := F) L tabM rowM1 ixM1 cc0_scratch7.sem 16 (le_refl _) = A1
  generalize hB0 : awaitBlocks (F := F) L tabM rowM0 cc0_scratch6.sem 16 (le_refl _) = B0
  generalize hB1 : awaitBlocks (F := F) L tabM rowM1 cc0_scratch7.sem 16 (le_refl _) = B1
  sl_exec
  subst hA0
  iapply (wp_startHalf d L tabM rowM0 ixM0 cc0_scratch6.sem q.left fullShare ft fr0 _ (inRows_list0 d L fi0)) $$ [Ht0 Hr0 Hi0 Hv2]
  · isplitl [Ht0]; · iexact Ht0
    isplitl [Hr0]; · iexact Hr0
    isplitl [Hi0]; · iexact Hi0
    iexact Hv2
  iintro HB0
  sl_exec
  subst hA1
  iapply (wp_startHalf d L tabM rowM1 ixM1 cc0_scratch7.sem q.right fullShare ft fr1 _ (inRows_list1 d L fi1)) $$ [Ht1 Hr1 Hi1 Hv3]
  · isplitl [Ht1]; · iexact Ht1
    isplitl [Hr1]; · iexact Hr1
    isplitl [Hi1]; · iexact Hi1
    iexact Hv3
  iintro HB1
  subst hB0
  iapply (wp_endHalf d L tabM rowM0 ixM0 cc0_scratch6.sem q.left fullShare ft fr0 _ (inRows_list0 d L fi0)) $$ [HB0 HO]
  · isplitr; · iexact Hmw
    isplitl [HB0]; · iexact HB0
    iexact HO
  iintro ⟨Hr0, Ht0, Hi0, Hv2, %W₁, %hW₁, HO⟩
  sl_exec
  subst hB1
  iapply (wp_endHalf d L tabM rowM1 ixM1 cc0_scratch7.sem q.right fullShare ft fr1 _ (inRows_list1 d L fi1)) $$ [HB1 HO]
  · isplitr; · iexact Hmw
    isplitl [HB1]; · iexact HB1
    iexact HO
  iintro ⟨Hr1, Ht1, Hi1, Hv3, %W₂, %hW₂, HO⟩
  sl_exec
  sl_step
  ihave Hc := (pointsTo_share (PosShare.mem_left_op_right q)).2 $$ [Hc0r Hc1r]
  · isplitl [Hc0r]; · iexact Hc0r
    iexact Hc1r
  have hS : tabM.view.set = Finset.univ := View.set_whole _
  ihave Ht := (Entails.of_eq (show (iprop((tabM.view.loc (tile d L) ↦[tabM.view.set]{q.left} ft) ∗ tabM.view.loc (tile d L) ↦[tabM.view.set]{q.right} ft) : sProp 𝕄)
      = iprop((tLoc d ↦{q.left} ft) ∗ tLoc d ↦{q.right} ft) by rw [hS])) $$ [Ht0 Ht1]
  · isplitl [Ht0]; · iexact Ht0
    iexact Ht1
  ihave Ht := (pointsTo_share (PosShare.mem_left_op_right q)).2 $$ Ht
  isplitl [Hc Ht Ho0 Ho1]
  · isplitl [Hc]; · iexact Hc
    isplitl [Ht]; · iexact Ht
    isplitl [Ho0]
    · rw [← set_outBlk0 L]
      iapply (Entails.of_eq (pointsTo_congr (written_eq d L (outBlk0 L outM) rfl fo _ (outOf (α := Elt F .f32) ft) (carried0 d L ft fi0 fr0)))); iexact Ho0
    · rw [← set_outBlk1 L]
      iapply (Entails.of_eq (pointsTo_congr (written_eq d L (outBlk1 L outM) rfl fo _ (outOf (α := Elt F .f32) ft) (carried1 d L ft fi1 fr1)))); iexact Ho1
  isplitl [Hi0 Hi1 Hr0 Hr1 Hbufs]
  · isplitl [Hi0]; · iapply (held d L ixM0 (View.set_whole _)); iexact Hi0
    isplitl [Hi1]; · iapply (held d L ixM1 (View.set_whole _)); iexact Hi1
    isplitl [Hr0]; · iapply (held d L rowM0 (View.set_whole _)); iexact Hr0
    isplitl [Hr1]; · iapply (held d L rowM1 (View.set_whole _)); iexact Hr1
    iexact Hbufs
  isplitl [Hv0 Hv1 Hv2 Hv3 Hv4 Hv5 Hsems]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases hW₂ p hp with hp | hp; swap; · exact .inr hp
  rcases hW₁ p hp with hp | hp; swap; · exact .inr hp
  rcases Finset.mem_insert.mp hp with hp | hp; · exact .inr (hp ▸ rfl)
  rcases Finset.mem_insert.mp hp with hp | hp; · exact .inr (hp ▸ rfl)
  exact .inl hp

end Cert.Proof.Gather

end
-- ==== Proof.Launch.lean ====
/-
  The whole program, launched: the host writes the lists and lays the input out as a table, the one call shares the table
  and the lists out to the sixteen tiles and hands each its two blocks of the result, and every block comes back at its
  rows of the table.
-/
module

public import proofs.«01_k».proof.Proof.Tile
public import Idealize.ShloMosaic.Lib.ShareLeaves

@[expose] public section

noncomputable section

namespace Cert.Proof.Gather

open Cert.KernelIdeal Cert.KernelIdeal.Gen Cert.Proof.Body
open Idealize.ShloMosaic Idealize.ShloMosaic.ValueIdx
open Idealize.ShloMosaic.SparseCore (S V T)
open Idealize.ShloMosaic.Rounds Idealize.ShloMosaic.ShareLeaves
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What is handed over, and handed back -/

/-- The table: the input's rows, batch after batch. -/
def tabOf (d : Dev nD) : Buf (Elt F) (tLoc d) := shapeCast S16384x2048 (m (aLoc d)) shapeCasts_S4x4096x2048_S16384x2048

/-- The result the call leaves. -/
abbrev resultOf (d : Dev nD) : Buf (Elt F) (oLoc d) := outOf (α := Elt F .f32) (tabOf m d)

/-- Tile `i`'s share of what every tile reads. -/
abbrev shareOf (i : Fin 16) : PosShare TreeShare := leaf 4 fullShare i

/-- The call's operands and its result's buffer, whole. -/
def handed (d : Dev nD) (fo : Buf (Elt F) (oLoc d)) : sProp 𝕄 :=
  iprop((cLoc d ↦{fullShare} (lists : Buf (Elt F) (cLoc d))) ∗ (tLoc d ↦{fullShare} tabOf m d) ∗ oLoc d ↦{fullShare} fo)

instance task_storable (d : Dev nD) (q : PosShare TreeShare) (ft : Buf (Elt F) (tLoc d)) (j : Fin 16) (fo : Buf (Elt F) (oLoc d)) :
    BI.Storable (upEmb : UEmb _ 𝕄) (task d q ft j fo) := by unfold task; infer_instance
instance handed_storable (d : Dev nD) (fo : Buf (Elt F) (oLoc d)) : BI.Storable (upEmb : UEmb _ 𝕄) (handed m d fo) := by
  unfold handed; infer_instance

/-- The call takes the table, the lists and the result's buffer; each tile its task's part of them; the result comes back
    filled, block by block. -/
def P : (K (F := F)).Pay (nD := nD) (Val := Elt F) (Name := ℕ) (U := UU) where
  st := fun q d _ => match q with | 0 => handed m d (m (oLoc d))
  dn := fun q d _ => match q with | 0 => handed m d (resultOf m d)
  go := fun q d _ i => match q with | 0 => task d (shareOf (Fin.cast nSub_zero i)) (tabOf m d) (Fin.cast nSub_zero i) (m (oLoc d))
  td := fun q d _ i => match q with | 0 => task d (shareOf (Fin.cast nSub_zero i)) (tabOf m d) (Fin.cast nSub_zero i) (resultOf m d)
  x := fun _ _ => iprop(emp)

instance P_storable : (P (F := F) m).IsStorable where
  st q d _ := match q with | 0 => handed_storable m d (m (oLoc d))
  dn q d _ := match q with | 0 => handed_storable m d (resultOf m d)
  go q d _ i := match q with | 0 => task_storable d (shareOf (Fin.cast nSub_zero i)) (tabOf m d) (Fin.cast nSub_zero i) (m (oLoc d))
  td q d _ i := match q with | 0 => task_storable d (shareOf (Fin.cast nSub_zero i)) (tabOf m d) (Fin.cast nSub_zero i) (resultOf m d)

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0_gather_rows (coordsV c s)
          tabM (Memref.isWhole_whole _) lstM (Memref.isWhole_whole _) outM (Memref.isWhole_whole _)
          ixM0 (Memref.isWhole_whole _) ixM1 (Memref.isWhole_whole _) rowM0 (Memref.isWhole_whole _) rowM1 (Memref.isWhole_whole _)
          cc0_scratch4 cc0_scratch5 cc0_scratch6 cc0_scratch7 cc0_scratch8 cc0_scratch9) ⟨⟩ c s := rfl

omit [FloatOps F] in
/-- Waits recorded for no call are recorded for no other. -/
theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr; · ipureintro; exact fun p hp => (hW' p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (shareOf (Fin.cast nSub_zero i)) (tabOf m d) (m (oLoc d)) O W hO).trans
    (wp_mono frame _ _ fun _ => widen)

/-! ## The operands split among the tiles, and the result's blocks join -/

omit [FloatOps F] in
/-- The result's buffer is its thirty-two blocks, two a tile. -/
theorem blocks_eq (d : Dev nD) (fo : Buf (Elt F) (oLoc d)) :
    (oLoc d ↦{fullShare} fo : sProp 𝕄)
      = bigSep Finset.univ fun j : Fin 16 => iprop((oLoc d ↦[outSet (blk0 j)]{fullShare} fo) ∗ oLoc d ↦[outSet (blk1 j)]{fullShare} fo) := by
  have h : (oLoc d ↦{fullShare} fo : sProp 𝕄) = bigSep Finset.univ fun b : Fin (16 * 2) => oLoc d ↦[outSet b]{fullShare} fo := by
    rw [← pointsTo_biUnion Finset.univ (ℓ := oLoc d) outSet outSet_disjoint, outSet_cover]; try rfl
  rw [h, bigSep_univ_equiv finProdFinEquiv, bigSep_univ_prod]
  refine bigSep_congr fun j _ => ?_
  rw [show (Finset.univ : Finset (Fin 2)) = {0, 1} by decide, SparseCore.bigSep_insert' (by decide), bigSep_singleton]

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What is handed over is the tiles' tasks, whatever the result's buffer holds. -/
theorem handed_eq (d : Dev nD) (fo : Buf (Elt F) (oLoc d)) :
    handed m d fo = bigSep Finset.univ fun i : Fin ((K (F := F)).nSub 0) => task d (shareOf (Fin.cast nSub_zero i)) (tabOf m d) (Fin.cast nSub_zero i) fo := by
  rw [bigSep_tiles (F := F) (fun i => task d (shareOf i) (tabOf m d) i fo)]
  unfold handed task
  rw [bigSep_sep', bigSep_sep', ← blocks_eq, pointsTo_leaves Finset.univ _ 4 fullShare, pointsTo_leaves Finset.univ (tabOf m d) 4 fullShare]
  rfl

omit [FloatOps F] in
theorem vecSplit : (K (F := F)).VecSplit' (P m) 0 := by
  intro d c
  show handed m d (m (oLoc d)) ⊢ |={Set.univ}=> iprop(
      (bigSep Finset.univ fun i : Fin ((K (F := F)).nSub 0) => task d (shareOf (Fin.cast nSub_zero i)) (tabOf m d) (Fin.cast nSub_zero i) (m (oLoc d)))
      ∗ ((bigSep Finset.univ fun i : Fin ((K (F := F)).nSub 0) => task d (shareOf (Fin.cast nSub_zero i)) (tabOf m d) (Fin.cast nSub_zero i) (resultOf m d))
          -∗ handed m d (resultOf m d)))
  rw [← handed_eq, ← handed_eq]
  iintro H; imodintro
  isplitl [H]; · iexact H
  iintro H; iexact H

/-! ## The launch's ghost state -/

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The host's program -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (cLoc d ↦{fullShare} W main_c) ∗ (tLoc d ↦{fullShare} W main_v0)
      ∗ oLoc d ↦{fullShare} W main_v1) := by
  unfold unscopedBufs
  rw [show (Finset.univ.filter fun b : Ref sig .tc => ¬ b.isScoped) = {main_arg0, main_c, main_v0, main_v1} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = handed m d (m (oLoc d)) :=
  bigSep_univ_of_subsingleton (0 : Fin 1)
theorem dn0_eq (d : Dev nD) : (bigSep Finset.univ fun c : Fin ((K (F := F)).nCore 0) => (P m).dn 0 d c) = handed m d (resultOf m d) :=
  bigSep_univ_of_subsingleton (0 : Fin 1)

/-- What the host holds at the end: the input as it was, the result filled. -/
abbrev FIN (d : Dev nD) : sProp 𝕄 := iprop((aLoc d ↦{fullShare} m (aLoc d)) ∗ oLoc d ↦{fullShare} resultOf m d)

/-- The constant written: the lists. -/
theorem lists_result (d : Dev nD) (V : Valuation τ sig (Elt F)) :
    (StableHlo.nullary (τ := τ) main_c (fun i => lit0 (S16x2x8.rowMajor i)) : HloOp τ sig (Elt F)).result V (Proc.devRef .tc main_c) = (lists : Buf (Elt F) (cLoc d)) :=
  StableHlo.nullary_result main_c _ _ V

/-- The reshape's result: the table; -/
theorem table_result (d : Dev nD) :
    (StableHlo.reshape (τ := τ) (Val := Elt F) main_arg0 main_v0 rfl shapeCasts_S4x4096x2048_S16384x2048).result (fun b => m (d, b)) (Proc.devRef .tc main_v0)
      = tabOf m d :=
  StableHlo.reshape_result main_arg0 main_v0 _ _ _ _ _

/-- it leaves the input. -/
theorem input_result (d : Dev nD) :
    (StableHlo.reshape (τ := τ) (Val := Elt F) main_arg0 main_v0 rfl shapeCasts_S4x4096x2048_S16384x2048).result (fun b => m (d, b)) (Proc.devRef .tc main_arg0)
      = m (aLoc d) :=
  StableHlo.reshape_result_ne main_arg0 main_v0 rfl shapeCasts_S4x4096x2048_S16384x2048 _ _ _ (by decide)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hc, Ht, Ho⟩, Hts, -⟩, -⟩
  iapply (wp_hlo 𝒱 (SparseCore.T d) none Set.univ (q := fun _ => fullShare) (F := fun b => m (d, b)) (fun _ _ => rfl)) $$ [Hb Hc]
  · isplitl [Hb]; · iexact Hb
    rw [StableHlo.nullary_bufs, bigSep_singleton]; iexact Hc
  rw [StableHlo.nullary_bufs, bigSep_singleton]
  iintro ⟨Hb, Hc⟩
  rw [wp_ret]; imodintro
  iapply (wp_hlo 𝒱 (SparseCore.T d) none Set.univ (q := fun _ => fullShare) (F := fun b => m (d, b)) (fun _ _ => rfl)) $$ [Hb Ha Ht]
  · isplitl [Hb]; · iexact Hb
    rw [StableHlo.reshape_bufs, SparseCore.bigSep_insert' (by decide), bigSep_singleton]
    isplitl [Ha]; · iexact Ha
    iexact Ht
  rw [StableHlo.reshape_bufs, SparseCore.bigSep_insert' (by decide), bigSep_singleton]
  iintro ⟨Hb, Ha, Ht⟩
  rw [wp_ret]; imodintro
  iapply ((K (F := F)).wp_run (D (F := F)) 𝒱 (EH := EH) (P := P m) κ d 0) $$ [Hst Hc Ht Ho Hb Hts Ha]
  isplitr; · iexact Hctx
  isplitl [Hst]; · iexact Hst
  isplitl [Hc Ht Ho]
  · rw [st0_eq]; unfold handed
    isplitl [Hc]; · rw [← lists_result d (fun b => m (d, b))]; iexact Hc
    isplitl [Ht]; · rw [← table_result m d]; iexact Ht
    iexact Ho
  iintro ⟨Hst, Hdn⟩
  ihave Hdn' := (Entails.of_eq (dn0_eq m d)) $$ Hdn
  unfold handed
  icases Hdn' with ⟨-, -, Ho⟩
  imodintro
  isplitl [Hst]; · iexact Hst
  isplitr [Hb Hts]
  · isplitl [Ha]; · rw [← input_result m d]; iexact Ha
    iexact Ho
  isplitl [Hb] <;> iassumption

def fq (d : Dev nD) (s' : Phys nD τ sig (Elt F)) : Prop := s'.mem.mem (aLoc d) = m (aLoc d) ∧ s'.mem.mem (oLoc d) = resultOf m d

omit [FloatOps F] in
theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := resultOf m d)) $$ [HSI Ho]
  · isplitl [HSI] <;> iassumption
  icases H with %h2
  ipureintro; exact ⟨funext fun i => h1 i (Finset.mem_univ i), funext fun i => h2 i (Finset.mem_univ i)⟩

/-! ## The run -/

/-- Every execution ends with the input as it was, the result at the table's rows the lists name, and every semaphore at zero. -/
def QC : PUnit × MemSt nD τ sig (Elt F) → Prop := fun r => (∀ c : Dev nD, r.2.mem (aLoc c) = m (aLoc c) ∧ r.2.mem (oLoc c) = resultOf m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Same.lean ====
/-
  The kernel's result is the reference's. The kernel's table is the input with the batches laid one under another, 4096 rows
  each, so its row number `4096 b + t` is time `t` of batch `b`; and the kernel's number for place `k` of batch `b` is
  `4096 b` plus the reference's `k`-th time.
-/
module

public import proofs.«01_k».proof.Proof.RefValue
public import proofs.«01_k».proof.Proof.Launch

@[expose] public section

noncomputable section

namespace Cert.Proof.Same

open Idealize.ShloMosaic Idealize.ShloMosaic.ValueIdx Idealize.SL.Sem

/-- The kernel's row numbers are the reference's times, each in its own batch. -/
theorem number_eq : ∀ (b : Fin 4) (k : Fin 64),
    (Cert.KernelIdeal.lit0 ⟨64 * b.val + k.val, by omega⟩).toNat = 4096 * b.val + (Cert.ReferenceIdeal.lit0 k).toNat := by decide +kernel

/-- The rows the kernel gathers out of the table of `x` are the reference's result of `x`. -/
theorem value_eq {α : Type} (x : Cert.KernelIdeal.S4x4096x2048.Idx → α) :
    Cert.Proof.Gather.outOf (shapeCast Cert.KernelIdeal.S16384x2048 x Cert.KernelIdeal.Gen.shapeCasts_S4x4096x2048_S16384x2048)
      = Cert.Proof.RefValue.refOf x := by
  funext y
  refine congrArg x (Shape.reshapeEquiv_eq_of_rowMajor _ ?_)
  rw [Shape.rowMajor_val_three, Shape.rowMajor_val_two]
  show ((y 0).val * 4096 + (Cert.ReferenceIdeal.lit0 (y 1)).toNat) * 2048 + (y 2).val
    = (Cert.KernelIdeal.lit0 (Cert.Proof.Gather.place y)).toNat * 2048 + (y 2).val
  rw [show (Cert.KernelIdeal.lit0 (Cert.Proof.Gather.place y)).toNat = _ from number_eq (y 0) (y 1)]
  omega

end Cert.Proof.Same

end
-- ==== Proof.CopyBody.lean ====
/-
  The scalar-subcore copy, on one sequencer. The kernel runs on both SparseCores' sequencers: the first copies the table's
  first eight rows to the result's first eight rows in one transfer and waits for it, the second returns at once. Here: the
  program's configuration and names, and the body at a symbolic sequencer.
-/
module

public import proofs.«01_k».proof.Proof.Gen.CopyKernelIdeal
public import proofs.«01_k».proof.Proof.Same

@[expose] public section

noncomputable section

namespace Cert.Proof.Copy

open Cert.CopyKernelIdeal Cert.CopyKernelIdeal.Gen
open Idealize.ShloMosaic Idealize.ShloMosaic.ValueIdx
open Idealize.ShloMosaic.SparseCore (S V T)
open Idealize.ShloMosaic.Rounds
open Idealize.ShloMosaic.SparseCore.Cfg (HIx ownBufs ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- Ghost state: the handshakes' rounds and the transfers' counters. -/
abbrev UH : Type := URounds (GSem nD τ sig) ℕ
abbrev UU : Type := UH × Counters
abbrev EH : Emb UH (MT nD τ sig (HIx 1) (Elt F) ℕ UU ℕ) := embL

local notation "𝕄" => MT nD τ sig (HIx 1) (Elt F) ℕ UU ℕ

/-! ## The arrays, and the views the copy goes between -/

abbrev tLoc (d : Dev nD) : Loc nD τ sig := (SparseCore.T d).loc main_v0
abbrev oLoc (d : Dev nD) : Loc nD τ sig := (SparseCore.T d).loc main_v1

abbrev tabM : Memref sig .scScalar .hbm S16384x2048 .f32 := Memref.whole main_v0_scs
abbrev outM : Memref sig .scScalar .hbm S256x2048 .f32 := Memref.whole main_v1_scs
/-- The first eight rows of the table, and of the result. -/
abbrev tabTop : Memref sig .scScalar .hbm S8x2048 .f32 :=
  tabM.slice (Rect.unit (s := S16384x2048) ![0, 0] S8x2048.size inb_S16384x2048_S8x2048_0_0) (fun _ => rfl)
abbrev outTop : Memref sig .scScalar .hbm S8x2048 .f32 :=
  outM.slice (Rect.unit (s := S256x2048) ![0, 0] S8x2048.size inb_S256x2048_S8x2048_0_0) (fun _ => rfl)

/-- The result's buffer after the copy: the table's first eight rows, and what it held below. -/
def copied {α : Type} (tab : S16384x2048.Idx → α) (old : S256x2048.Idx → α) (x : S256x2048.Idx) : α :=
  if (x 0).val < 8 then tab (ix2 ⟨(x 0).val, lt_trans (x 0).isLt (by decide)⟩ (x 1)) else old x

/-- A place of the copied rows is the same place of the result, -/
theorem outTop_emb (x : S8x2048.Idx) (a : Fin 2) : (outTop.view.emb x a).val = (x a).val := by
  change ((Rect.unit (s := S256x2048) ![0, 0] S8x2048.size inb_S256x2048_S8x2048_0_0).emb x a).val = _
  rw [Rect.emb_apply]
  match a with
  | 0 => show 0 + 1 * (x 0).val = (x 0).val; omega
  | 1 => show 0 + 1 * (x 1).val = (x 1).val; omega

/-- and of the table. -/
theorem tabTop_emb (x : S8x2048.Idx) (a : Fin 2) : (tabTop.view.emb x a).val = (x a).val := by
  change ((Rect.unit (s := S16384x2048) ![0, 0] S8x2048.size inb_S16384x2048_S8x2048_0_0).emb x a).val = _
  rw [Rect.emb_apply]
  match a with
  | 0 => show 0 + 1 * (x 0).val = (x 0).val; omega
  | 1 => show 0 + 1 * (x 1).val = (x 1).val; omega

/-- Every place in the first eight rows is one of the copied. -/
theorem mem_outTop (i : S256x2048.Idx) (h : (i 0).val < 8) : i ∈ outTop.view.set :=
  Finset.mem_map.mpr ⟨ix2 ⟨(i 0).val, h⟩ (i 1), Finset.mem_univ _, funext fun a => Fin.ext ((outTop_emb _ a).trans (by
    match a with
    | 0 => rfl
    | 1 => rfl))⟩

variable (d : Dev nD)

/-- On the copied rows the buffer holds the table's rows; -/
theorem top_eq (ft : Buf (Elt F) (tLoc d)) (fo : Buf (Elt F) (oLoc d)) : ∀ i ∈ outTop.view.set,
    outTop.view.writes (Elt F) fo [⟨Rect.whole S8x2048, tabTop.view.read (Elt F) ft⟩] i = copied (α := Elt F .f32) ft fo i := by
  intro i hi
  obtain ⟨x, -, rfl⟩ := Finset.mem_map.mp hi
  have e : outTop.view.read (Elt F) (outTop.view.writes (Elt F) fo [⟨Rect.whole S8x2048, tabTop.view.read (Elt F) ft⟩]) x = tabTop.view.read (Elt F) ft x :=
    View.read_writes_cons_hit_of_coords outTop.view fo (Rect.whole S8x2048) _ [] x x fun a => by simp [Rect.whole]
  rw [View.read_apply, View.read_apply] at e
  refine ((cast_bijective _).injective e).trans ?_
  have h0 : (outTop.view.emb x 0).val = (x 0).val := outTop_emb x 0
  have hx : (x 0).val < 8 := (x 0).isLt
  unfold copied
  rw [if_pos (by rw [h0]; exact hx)]
  refine congrArg ft (funext fun a => Fin.ext ((tabTop_emb x a).trans ?_))
  match a with
  | 0 => exact h0.symm
  | 1 => exact (outTop_emb x 1).symm

/-- elsewhere what it held. -/
theorem rest_eq (ft : Buf (Elt F) (tLoc d)) (fo : Buf (Elt F) (oLoc d)) : ∀ i ∈ Finset.univ \ outTop.view.set,
    fo i = copied (α := Elt F .f32) ft fo i := by
  intro i hi
  unfold copied
  rw [if_neg fun h => (Finset.mem_sdiff.mp hi).2 (mem_outTop i h)]

/-! ## The sequencer -/

variable (L : grid0.Coords)

/-- The thread at grid coordinate `L`. -/
abbrev seqr : Thread nD τ := S d ((L 0).castLE hcore0)
abbrev cell : GSem nD τ sig := (seqr d L, .dma cc0_scoped0.sem)

theorem ownSems0_seqr : (ownSems0 (seqr d L) : sProp 𝕄) = iprop(semVal (cell d L) 0 ∗ bigSep ((ownCells (seqr d L)).erase (cell d L)) fun g => semVal g 0) := by
  unfold SparseCore.Cfg.ownSems0
  have h : (SemLoc.dma cc0_scoped0.sem : SemLoc sig).isScoped .scScalar = true := by decide
  have hm : cell d L ∈ ownCells (seqr d L) := mem_ownCells.mpr ⟨rfl, h⟩
  exact SparseCore.bigSep_erase' hm

/-- The kernel's test: is this the first SparseCore. -/
theorem guard_iff : ∀ i : grid0.Coords,
    Scalar.cmpi .ne (Scalar.extui (Scalar.cmpi .eq (BitVec.ofNat 32 (i 0).val) 0#32) : BitVec 32) 0#32 = 1#1 ↔ (i 0).val = 0 := by decide +kernel

/-- The copied rows and the rest are the result's buffer after the copy. -/
theorem joined (ft : Buf (Elt F) (tLoc d)) (fo : Buf (Elt F) (oLoc d)) (w : S8x2048.Idx → Elt F .f32) (hw : w = tabTop.view.read (Elt F) ft) :
    iprop((outTop.view.loc (seqr d L) ↦[outTop.view.set]{fullShare} outTop.view.writes (Elt F) fo [⟨Rect.whole S8x2048, w⟩])
        ∗ oLoc d ↦[Finset.univ \ outTop.view.set]{fullShare} fo)
      ⊢ (oLoc d ↦{fullShare} copied (α := Elt F .f32) ft fo : sProp 𝕄) := by
  subst hw
  have h1 : (oLoc d ↦[outTop.view.set]{fullShare} outTop.view.writes (Elt F) fo [⟨Rect.whole S8x2048, tabTop.view.read (Elt F) ft⟩] : sProp 𝕄)
      = oLoc d ↦[outTop.view.set]{fullShare} copied (α := Elt F .f32) ft fo := pointsTo_congr (top_eq d ft fo)
  have h2 : (oLoc d ↦[Finset.univ \ outTop.view.set]{fullShare} fo : sProp 𝕄)
      = oLoc d ↦[Finset.univ \ outTop.view.set]{fullShare} copied (α := Elt F .f32) ft fo := pointsTo_congr (rest_eq d ft fo)
  iintro ⟨H1, H2⟩
  iapply (pointsTo_split_subset (ℓ := oLoc d) (Finset.subset_univ outTop.view.set)).2
  isplitl [H1]
  · rw [← h1]; iexact H1
  · rw [← h2]; iexact H2

variable [FloatOps F]

/-- What sequencer `j` is handed and, at `fo`'s final value, hands back: the first the table and the result's buffer, the second nothing. -/
def task (j : ℕ) (ft : Buf (Elt F) (tLoc d)) (fo : Buf (Elt F) (oLoc d)) : sProp 𝕄 :=
  if j = 0 then iprop((tLoc d ↦{fullShare} ft) ∗ oLoc d ↦{fullShare} fo) else iprop(emp)

theorem body (ft : Buf (Elt F) (tLoc d)) (fo : Buf (Elt F) (oLoc d))
    (O : CellTallies nD τ sig (HIx 1)) (W : Waits sig (HIx 1)) (hO : ∀ g, O g none = 0) :
    iprop(levAts (K (F := F)).L (K (F := F)).lev ∗ emp ∗ task d (L 0).val ft fo
        ∗ scopedBufs (seqr d L) ∗ scopedSems0 (seqr d L) ∗ owes (seqr d L) O W)
      ⊢ wp frame (wpE (defs₀ (F := F)) 𝒱₀ (seqr d L) none) Set.univ
          (cc0_copy_rows L tabM (Memref.isWhole_whole _) outM (Memref.isWhole_whole _) cc0_scoped0)
          fun _ => iprop(task d (L 0).val ft (copied (α := Elt F .f32) ft fo) ∗ scopedBufs (seqr d L) ∗ scopedSems0 (seqr d L)
            ∗ ∃ W', ⌜∀ p ∈ W', p ∈ W ∨ p.2 = none⌝ ∗ owes (seqr d L) O W') := by
  unfold cc0_copy_rows task
  by_cases h : (L 0).val = 0
  · simp only [dif_pos ((guard_iff L).mpr h), if_pos h]
    rw [SparseCore.Cfg.scopedSems0_S (Val := Elt F) d ((L 0).castLE hcore0), ownSems0_seqr]
    iintro ⟨#Hlv, -, ⟨Ht, Ho⟩, Hbufs, ⟨⟨Hv, Hsems⟩, Htiles⟩, HO⟩
    ihave Hmw := (show levAts (K (F := F)).L (K (F := F)).lev ⊢ Transfers.MayWaits (seqr d L) (default : HIx 1) O from
      (K (F := F)).mayWaits_none (thr := seqr d L) hO) $$ Hlv
    icases Hmw with #Hmw
    ihave Hts := (pointsTo_split_subset (Finset.subset_univ tabTop.view.set)).1 $$ Ht
    icases Hts with ⟨Ht, Htr⟩
    ihave Hos := (pointsTo_split_subset (Finset.subset_univ outTop.view.set)).1 $$ Ho
    icases Hos with ⟨Ho, Hor⟩
    ihave Ht := (Entails.of_eq (show _ = (tabTop.view.loc (seqr d L) ↦[tabTop.view.set]{fullShare} ft : sProp 𝕄) from rfl)) $$ Ht
    ihave Ho := (Entails.of_eq (show _ = (outTop.view.loc (seqr d L) ↦[outTop.view.set]{fullShare} fo : sProp 𝕄) from rfl)) $$ Ho
    sl_exec
    sl_step
    isplitl [Htr Ho Hor]
    · isplitl [Htr]; · iexact Htr
      iapply (joined d L ft fo _ rfl) $$ [Ho Hor]
      isplitl [Ho]; · iexact Ho
      iexact Hor
    isplitl [Hbufs]; · iexact Hbufs
    isplitl [Hv Hsems Htiles]
    · isplitl [Hv Hsems]
      · isplitl [Hv]; · iexact Hv
        iexact Hsems
      iexact Htiles
    iexists (insert (SemLoc.dma cc0_scoped0.sem, default) W)
    isplitr
    · ipureintro
      intro p hp
      rcases Finset.mem_insert.mp hp with rfl | hp
      · exact .inr rfl
      · exact .inl hp
    iexact HO
  · simp only [dif_neg (mt (guard_iff L).mp h), if_neg h]
    iintro ⟨-, -, -, Hbufs, Hsems, HO⟩
    rw [wp_pure]; imodintro
    isplitr; · iempintro
    isplitl [Hbufs]; · iexact Hbufs
    isplitl [Hsems]; · iexact Hsems
    iexists W; isplitr; · ipureintro; exact fun _ h => .inl h
    iexact HO

end Cert.Proof.Copy

end
-- ==== Proof.CopyLaunch.lean ====
/-
  The copying program, launched: the host lays the input out as a table, the one call hands the first SparseCore's
  sequencer the table and the result's buffer and the second nothing, and the host takes the copied rows out of what
  comes back.
-/
module

public import proofs.«01_k».proof.Proof.CopyBody

@[expose] public section

noncomputable section

namespace Cert.Proof.Copy

open Cert.CopyKernelIdeal Cert.CopyKernelIdeal.Gen
open Idealize.ShloMosaic Idealize.ShloMosaic.ValueIdx
open Idealize.ShloMosaic.SparseCore (S V T)
open Idealize.ShloMosaic.Rounds
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What is handed over, and handed back -/

abbrev aLoc (d : Dev nD) : Loc nD τ sig := (SparseCore.T d).loc main_arg0
abbrev rLoc (d : Dev nD) : Loc nD τ sig := (SparseCore.T d).loc main_v4

/-- The table: the input's rows, batch after batch. -/
def tabOf (d : Dev nD) : Buf (Elt F) (tLoc d) := shapeCast S16384x2048 (m (aLoc d)) shapeCasts_S4x4096x2048_S16384x2048

/-- The buffer the call leaves. -/
abbrev copiedOf (d : Dev nD) : Buf (Elt F) (oLoc d) := copied (α := Elt F .f32) (tabOf m d) (m (oLoc d))

instance task_storable (d : Dev nD) (j : ℕ) (ft : Buf (Elt F) (tLoc d)) (fo : Buf (Elt F) (oLoc d)) :
    BI.Storable (upEmb : UEmb _ 𝕄) (task d j ft fo) := by unfold task; split <;> infer_instance

/-- The call hands the first sequencer the table and the result's buffer, and takes them back with the rows copied. -/
def P : (K (F := F)).Pay (nD := nD) (Val := Elt F) (Name := ℕ) (U := UU) where
  st := fun _ d c => task d c.val (tabOf m d) (m (oLoc d))
  dn := fun _ d c => task d c.val (tabOf m d) (copiedOf m d)
  go := fun _ _ _ _ => iprop(emp)
  td := fun _ _ _ _ => iprop(emp)
  x := fun _ _ => iprop(emp)

instance P_storable : (P (F := F) m).IsStorable where
  st _ d c := task_storable d c.val (tabOf m d) (m (oLoc d))
  dn _ d c := task_storable d c.val (tabOf m d) (copiedOf m d)
  go _ _ _ _ := inferInstanceAs (BI.Storable (upEmb : UEmb _ 𝕄) iprop(emp))
  td _ _ _ _ := inferInstanceAs (BI.Storable (upEmb : UEmb _ 𝕄) iprop(emp))

/-! ## The sequencers' obligation -/

def coordsS (c : Fin (grid0.bound 0)) : grid0.Coords :=
  fun | 0 => c | ⟨_ + 1, h⟩ => absurd h (Nat.not_lt.2 (Nat.le_add_left _ _))

variable [FloatOps F]

theorem defs₀_scalar (c : Fin τ.nSC) :
    defs₀ (F := F) (.scScalar c) 0 ()
      = SparseCore.onCore hcore0 (fun c => cc0_copy_rows (coordsS c) tabM (Memref.isWhole_whole _) outM (Memref.isWhole_whole _) cc0_scoped0) ⟨⟩ c := rfl

omit [FloatOps F] in
/-- Waits recorded for no call are recorded for no other. -/
theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr; · ipureintro; exact fun p hp => (hW' p hp).imp_right Or.inl
  iexact HO

theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body d (coordsS ⟨_, hc⟩) (tabOf m d) (m (oLoc d)) O W hO).trans (wp_mono frame _ _ fun _ => widen)

/-! ## The launch's ghost state -/

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The host's program -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_v0) ∗ (oLoc d ↦{fullShare} W main_v1)
      ∗ ((SparseCore.T d).loc main_v2 ↦{fullShare} W main_v2) ∗ ((SparseCore.T d).loc main_v3 ↦{fullShare} W main_v3) ∗ rLoc d ↦{fullShare} W main_v4) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), bigSep_singleton]

omit [FloatOps F] in
/-- The two sequencers' parts are the first one's. -/
theorem tasks_eq (d : Dev nD) (ft : Buf (Elt F) (tLoc d)) (fo : Buf (Elt F) (oLoc d)) :
    (bigSep Finset.univ fun c : Fin ((K (F := F)).nCore 0) => task d c.val ft fo : sProp 𝕄)
      = iprop((tLoc d ↦{fullShare} ft) ∗ oLoc d ↦{fullShare} fo) := by
  have h : (bigSep (Finset.univ : Finset (Fin 2)) fun c => task d c.val ft fo : sProp 𝕄) = iprop(task d 0 ft fo ∗ task d 1 ft fo) := by
    rw [show (Finset.univ : Finset (Fin 2)) = {0, 1} by decide, SparseCore.bigSep_insert' (by decide), bigSep_singleton]; rfl
  refine Eq.trans h ?_
  unfold task
  rw [if_pos rfl, if_neg (by decide)]
  exact sep_emp_eq _

theorem dn0_eq (d : Dev nD) :
    (bigSep Finset.univ fun c : Fin ((K (F := F)).nCore 0) => (P m).dn 0 d c) = iprop((tLoc d ↦{fullShare} tabOf m d) ∗ oLoc d ↦{fullShare} copiedOf m d) :=
  tasks_eq d (tabOf m d) (copiedOf m d)

/-- The rows taken out of the buffer the call leaves. -/
def takenOf {α : Type} (x : S256x2048.Idx → α) : S8x2048.Idx → α :=
  shapeCast S8x2048 (extractStridedSlice S1x8x2048 ![0, 0, 0] (shapeCast S4x64x2048 x shapeCasts_S256x2048_S4x64x2048) slices_S4x64x2048_S1x8x2048_0_0_0)
    shapeCasts_S1x8x2048_S8x2048

/-- The program's result. -/
abbrev resultOf (d : Dev nD) : Buf (Elt F) (rLoc d) := takenOf (α := Elt F .f32) (copiedOf m d)

/-- What the host holds at the end: the input as it was, the result. -/
abbrev FIN (d : Dev nD) : sProp 𝕄 := iprop((aLoc d ↦{fullShare} m (aLoc d)) ∗ rLoc d ↦{fullShare} resultOf m d)

/-- The first reshape's result: the table; -/
theorem table_result (d : Dev nD) :
    (StableHlo.reshape (τ := τ) (Val := Elt F) main_arg0 main_v0 rfl shapeCasts_S4x4096x2048_S16384x2048).result (fun b => m (d, b)) (Proc.devRef .tc main_v0)
      = tabOf m d :=
  StableHlo.reshape_result main_arg0 main_v0 _ _ _ _ _

/-- it leaves the input. -/
theorem input_result (d : Dev nD) :
    (StableHlo.reshape (τ := τ) (Val := Elt F) main_arg0 main_v0 rfl shapeCasts_S4x4096x2048_S16384x2048).result (fun b => m (d, b)) (Proc.devRef .tc main_arg0)
      = m (aLoc d) :=
  StableHlo.reshape_result_ne main_arg0 main_v0 rfl shapeCasts_S4x4096x2048_S16384x2048 _ _ _ (by decide)

/-- The host's three operations after the call, -/
abbrev opBatches : HloOp τ sig (Elt F) := StableHlo.reshape main_v1 main_v2 rfl shapeCasts_S256x2048_S4x64x2048
abbrev opRows : HloOp τ sig (Elt F) :=
  StableHlo.unary main_v2 main_v3 ((extractStridedSlice S1x8x2048 ![0, 0, 0] · slices_S4x64x2048_S1x8x2048_0_0_0) : (⟨S4x64x2048, .f32⟩ : BufTy).Contents (Elt F) → (⟨S1x8x2048, .f32⟩ : BufTy).Contents (Elt F))
abbrev opFlat : HloOp τ sig (Elt F) := StableHlo.reshape main_v3 main_v4 rfl shapeCasts_S1x8x2048_S8x2048

/-- the buffers they go between, -/
abbrev after4 : Finset (DevRef τ sig) := {Proc.devRef .tc main_v1, Proc.devRef .tc main_v2, Proc.devRef .tc main_v3, Proc.devRef .tc main_v4}

/-- what the buffers hold before them, -/
def V₁ (d : Dev nD) : Valuation τ sig (Elt F) := Function.update (fun b => m (d, b)) (Proc.devRef .tc main_v1) (copiedOf m d)

/-- and what they leave in the last. -/
theorem taken_result (d : Dev nD) :
    (opFlat (F := F)).result ((opRows (F := F)).result ((opBatches (F := F)).result (V₁ m d))) (Proc.devRef .tc main_v4) = resultOf m d := by
  have h0 : V₁ m d (Proc.devRef .tc main_v1) = copiedOf m d := Function.update_self _ _ _
  have h1 := StableHlo.reshape_result (τ := τ) (Val := Elt F) main_v1 main_v2 rfl shapeCasts_S256x2048_S4x64x2048 (by decide) (by decide) (V₁ m d)
  rw [h0] at h1
  have h2 := StableHlo.unary_result (τ := τ) (Val := Elt F) main_v2 main_v3 (extractStridedSlice S1x8x2048 ![0, 0, 0] · slices_S4x64x2048_S1x8x2048_0_0_0)
    (by decide) (by decide) ((opBatches (F := F)).result (V₁ m d))
  rw [h1] at h2
  change (opRows (F := F)).result ((opBatches (F := F)).result (V₁ m d)) (Proc.devRef .tc main_v3) = _ at h2
  have h3 := StableHlo.reshape_result (τ := τ) (Val := Elt F) main_v3 main_v4 rfl shapeCasts_S1x8x2048_S8x2048 (by decide) (by decide)
    ((opRows (F := F)).result ((opBatches (F := F)).result (V₁ m d)))
  rw [h2] at h3
  exact h3

omit [FloatOps F] in
theorem held_eq (d : Dev nD) (W : Valuation τ sig (Elt F)) :
    (StableHlo.held (SparseCore.T d : Thread nD τ) after4 W : sProp 𝕄)
      = iprop((oLoc d ↦{fullShare} W (Proc.devRef .tc main_v1)) ∗ ((SparseCore.T d).loc main_v2 ↦{fullShare} W (Proc.devRef .tc main_v2))
        ∗ ((SparseCore.T d).loc main_v3 ↦{fullShare} W (Proc.devRef .tc main_v3)) ∗ rLoc d ↦{fullShare} W (Proc.devRef .tc main_v4)) := by
  unfold StableHlo.held
  rw [SparseCore.bigSep_insert' (by decide), SparseCore.bigSep_insert' (by decide), SparseCore.bigSep_insert' (by decide), bigSep_singleton]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Ho, H2, H3, H4⟩, Hts, -⟩, -⟩
  iapply (wp_hlo 𝒱 (SparseCore.T d) none Set.univ (q := fun _ => fullShare) (F := fun b => m (d, b)) (fun _ _ => rfl)) $$ [Hb Ha Ht]
  · isplitl [Hb]; · iexact Hb
    rw [StableHlo.reshape_bufs, SparseCore.bigSep_insert' (by decide), bigSep_singleton]
    isplitl [Ha]; · iexact Ha
    iexact Ht
  rw [StableHlo.reshape_bufs, SparseCore.bigSep_insert' (by decide), bigSep_singleton]
  iintro ⟨Hb, Ha, Ht⟩
  rw [wp_ret]; imodintro
  iapply ((K (F := F)).wp_run (D (F := F)) 𝒱 (EH := EH) (P := P m) κ d 0) $$ [Hst Ht Ho Hb Hts Ha H2 H3 H4]
  isplitr; · iexact Hctx
  isplitl [Hst]; · iexact Hst
  isplitl [Ht Ho]
  · iapply (Entails.of_eq (tasks_eq d (tabOf m d) (m (oLoc d))).symm) $$ [Ht Ho]
    isplitl [Ht]; · rw [← table_result m d]; iexact Ht
    iexact Ho
  iintro ⟨Hst, Hdn⟩
  ihave Hdn' := (Entails.of_eq (dn0_eq m d)) $$ Hdn
  icases Hdn' with ⟨-, Ho⟩
  iapply (StableHlo.wp_hlo_within 𝒱 (SparseCore.T d) none Set.univ (op := opBatches) (S := after4) (by rw [StableHlo.reshape_bufs]; decide) (V := V₁ m d)) $$ [Hb Ho H2 H3 H4]
  · isplitl [Hb]; · iexact Hb
    rw [held_eq]
    isplitl [Ho]; · iexact Ho
    isplitl [H2]; · iexact H2
    isplitl [H3]; · iexact H3
    iexact H4
  iintro H
  rw [wp_ret]; imodintro
  iapply (StableHlo.wp_hlo_within 𝒱 (SparseCore.T d) none Set.univ (op := opRows) (S := after4) (by rw [StableHlo.unary_bufs]; decide)) $$ H
  iintro H
  rw [wp_ret]; imodintro
  iapply (StableHlo.wp_hlo_within 𝒱 (SparseCore.T d) none Set.univ (op := opFlat) (S := after4) (by rw [StableHlo.reshape_bufs]; decide)) $$ H
  iintro ⟨Hb, H⟩
  rw [wp_ret]; imodintro
  ihave H := (Entails.of_eq (held_eq d _)) $$ H
  icases H with ⟨-, -, -, H4⟩
  imodintro
  isplitl [Hst]; · iexact Hst
  isplitr [Hb Hts]
  · isplitl [Ha]; · rw [← input_result m d]; iexact Ha
    rw [← taken_result m d]; iexact H4
  isplitl [Hb] <;> iassumption

def fq (d : Dev nD) (s' : Phys nD τ sig (Elt F)) : Prop := s'.mem.mem (aLoc d) = m (aLoc d) ∧ s'.mem.mem (rLoc d) = resultOf m d

omit [FloatOps F] in
theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := resultOf m d)) $$ [HSI Ho]
  · isplitl [HSI] <;> iassumption
  icases H with %h2
  ipureintro; exact ⟨funext fun i => h1 i (Finset.mem_univ i), funext fun i => h2 i (Finset.mem_univ i)⟩

/-! ## The run -/

/-- Every execution ends with the input as it was, the result the rows taken, and every semaphore at zero. -/
def QC : PUnit × MemSt nD τ sig (Elt F) → Prop := fun r => (∀ c : Dev nD, r.2.mem (aLoc c) = m (aLoc c) ∧ r.2.mem (rLoc c) = resultOf m c) ∧ r.2.sem = fun _ => 0

theorem run_main [∀ e, Nonempty (Elt F e)] :
    θ_run (Cert.CopyKernelIdeal.defs (F := F)) (Cert.CopyKernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.CopySame.lean ====
/-
  The copied rows are the reference's: what the host takes out of the buffer the call leaves is the input's first eight
  rows of the first batch.
-/
module

public import proofs.«01_k».proof.Proof.Gen.CopyReferenceIdeal.Run
public import proofs.«01_k».proof.Proof.CopyLaunch

@[expose] public section

noncomputable section

namespace Cert.Proof.CopySame

open Idealize.ShloMosaic Idealize.ShloMosaic.ValueIdx
open Cert.CopyKernelIdeal Cert.CopyKernelIdeal.Gen

/-- The first eight rows of the first batch of `x`. -/
def topOf {α : Type} (x : S4x4096x2048.Idx → α) (y : S8x2048.Idx) : α := x (ix3 0 ⟨(y 0).val, lt_trans (y 0).isLt (by decide)⟩ (y 1))

/-- A row of eight, as a row of one batch's eight. -/
theorem batch_eq (y : S8x2048.Idx) (h : S8x2048.numel = S1x8x2048.numel) :
    Shape.reshapeEquiv h y = (ix3 0 (y 0) (y 1) : (⟨3, ![1, 8, 2048]⟩ : Shape).Idx) := by
  refine Shape.reshapeEquiv_eq_of_rowMajor _ ?_
  rw [Shape.rowMajor_val_three, Shape.rowMajor_val_two]
  show ((0 : ℕ) * 8 + (y 0).val) * 2048 + (y 1).val = (y 0).val * 2048 + (y 1).val
  omega

/-- The first eight rows, cut out of the first of four batches of `n`. -/
theorem cut_apply {α : Type} {n : ℕ} (hn : 8 ≤ n) (z : (⟨3, ![4, n, 2048]⟩ : Shape).Idx → α)
    (h : (⟨3, ![4, n, 2048]⟩ : Shape).Slices ![0, 0, 0] S1x8x2048) (h' : S1x8x2048.ShapeCasts S8x2048) (y : S8x2048.Idx) :
    shapeCast S8x2048 (extractStridedSlice S1x8x2048 ![0, 0, 0] z h) h' y = z (ix3 0 ⟨(y 0).val, lt_of_lt_of_le (y 0).isLt hn⟩ (y 1)) := by
  unfold shapeCast
  rw [batch_eq]
  refine congrArg z (funext fun a => Fin.ext ?_)
  match a with
  | ⟨0, _⟩ => rfl
  | ⟨1, _⟩ => exact Nat.zero_add _
  | ⟨2, _⟩ => exact Nat.zero_add _

/-- A row of the first batch is the same row of the buffer; -/
theorem flat_eq (b : Fin 64) (k : Fin 2048) (h : S4x64x2048.numel = S256x2048.numel) :
    Shape.reshapeEquiv h (ix3 0 b k : (⟨3, ![4, 64, 2048]⟩ : Shape).Idx) = (ix2 ⟨b.val, by omega⟩ k : (⟨2, ![256, 2048]⟩ : Shape).Idx) := by
  refine Shape.reshapeEquiv_eq_of_rowMajor _ ?_
  rw [Shape.rowMajor_val_three, Shape.rowMajor_val_two]
  show b.val * 2048 + k.val = ((0 : ℕ) * 64 + b.val) * 2048 + k.val
  omega

/-- a row of the table's first 4096 is the same row of the input's first batch. -/
theorem table_eq (b : Fin 4096) (k : Fin 2048) (h : S16384x2048.numel = S4x4096x2048.numel) :
    Shape.reshapeEquiv h (ix2 ⟨b.val, by omega⟩ k : (⟨2, ![16384, 2048]⟩ : Shape).Idx) = (ix3 0 b k : (⟨3, ![4, 4096, 2048]⟩ : Shape).Idx) := by
  refine Shape.reshapeEquiv_eq_of_rowMajor _ ?_
  rw [Shape.rowMajor_val_three, Shape.rowMajor_val_two]
  show ((0 : ℕ) * 4096 + b.val) * 2048 + k.val = b.val * 2048 + k.val
  omega

/-- What the host takes of the buffer, whatever that held below the copied rows. -/
theorem taken_eq {α : Type} (x : S4x4096x2048.Idx → α) (old : S256x2048.Idx → α) :
    Copy.takenOf (Copy.copied (shapeCast S16384x2048 x shapeCasts_S4x4096x2048_S16384x2048) old) = topOf x := by
  funext y
  have hy : (y 0).val < 8 := (y 0).isLt
  refine (cut_apply (n := 64) (by decide) _ _ _ y).trans ?_
  refine (congrArg (Copy.copied _ old) (flat_eq ⟨(y 0).val, by omega⟩ (y 1) _)).trans ?_
  refine (if_pos hy).trans ?_
  exact congrArg x (table_eq ⟨(y 0).val, by omega⟩ (y 1) _)

variable {F : FTy → Type} [FloatOps F]

/-- The reference's run: its result is `topOf` of its argument, which is unchanged. -/
theorem run (m : (ℓ : Loc Cert.CopyReferenceIdeal.nD Cert.CopyReferenceIdeal.τ Cert.CopyReferenceIdeal.sig) → Buf (Elt F) ℓ)
    (ρ : Dev Cert.CopyReferenceIdeal.nD → PrngReg) :
    θ_run Cert.CopyReferenceIdeal.defs (onTc (τ := Cert.CopyReferenceIdeal.τ) (Cert.CopyReferenceIdeal.main (F := F))) ⟨m, fun _ => 0, ρ⟩ fun r =>
      ∀ c : Dev Cert.CopyReferenceIdeal.nD,
        r.2.mem ((c.tc : Thread Cert.CopyReferenceIdeal.nD Cert.CopyReferenceIdeal.τ).loc Cert.CopyReferenceIdeal.main_v1)
          = topOf (m ((c.tc : Thread Cert.CopyReferenceIdeal.nD Cert.CopyReferenceIdeal.τ).loc Cert.CopyReferenceIdeal.main_arg0))
        ∧ r.2.mem ((c.tc : Thread Cert.CopyReferenceIdeal.nD Cert.CopyReferenceIdeal.τ).loc Cert.CopyReferenceIdeal.main_arg0)
          = m ((c.tc : Thread Cert.CopyReferenceIdeal.nD Cert.CopyReferenceIdeal.τ).loc Cert.CopyReferenceIdeal.main_arg0) :=
  (θ_run Cert.CopyReferenceIdeal.defs _ _).mono
    (fun _ h c => ⟨(h c).1.trans (funext fun y => cut_apply (n := 4096) (by decide) _ _ _ y), (h c).2⟩) (Cert.CopyReferenceIdeal.Value.run m ρ)

end Cert.Proof.CopySame

end
-- ==== Proof.lean ====
/-
  The claim. The gather: the kernel's run (Proof/Launch.lean) and the reference's (Proof/RefValue.lean), each proved once for
  any float values, read at `Bits` and at the ideal numbers, and the equality of their results (Proof/Same.lean). The copy by
  the scalar subcores: in the same way (Proof/CopyLaunch.lean, Proof/CopySame.lean).
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.CopyKernel
public import proofs.«01_k».proof.Proof.Gen.CopyKernelIdeal
public import proofs.«01_k».proof.Proof.Gen.CopyReference
public import proofs.«01_k».proof.Proof.Gen.CopyReferenceIdeal
public import proofs.«01_k».proof.Proof.Gen.CopyReferenceIdeal.Run
public import proofs.«01_k».proof.Proof.Same
public import proofs.«01_k».proof.Proof.CopyLaunch
public import proofs.«01_k».proof.Proof.CopySame

@[expose] public section

noncomputable section

namespace Cert.Proof

open Idealize.ShloMosaic Idealize.SL.Sem

/-! ## The frames -/

theorem frame_kernel : Cert.quiescent_Kernel := fun m ρ _ =>
  (θ_run Cert.KernelIdeal.defs _ _).mono (fun _ h => ⟨fun c => (h.1 c).1, h.2⟩) (Gather.run_main (F := Bits) m ρ)

theorem frame_kernelIdeal : Cert.quiescent_KernelIdeal := fun m ρ _ =>
  (θ_run Cert.KernelIdeal.defs _ _).mono (fun _ h => ⟨fun c => (h.1 c).1, h.2⟩) (Gather.run_main (F := Ideal) m ρ)

/-- The reference declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (RefValue.run (F := Ideal) m ρ)

theorem frame_reference : Cert.quiescent_Reference := fun m ρ _ =>
  (θ_run Cert.ReferenceIdeal.defs _ _).mono (fun r h => ⟨fun c => (h c).2, sem_eq_zero_of_no_sems (by decide) r.2⟩)
    (RefValue.run (F := Bits) m ρ)

/-! ## The values -/

theorem algebraic : Cert.algebraic_KernelIdeal_ReferenceIdeal := fun m ρ m' ρ' _ same =>
  ⟨fun c => Gather.resultOf (F := Ideal) m c,
    (θ_run Cert.KernelIdeal.defs _ _).mono (fun _ h c => ⟨(h.1 c).2, (h.1 c).1⟩) (Gather.run_main (F := Ideal) m ρ),
    (θ_run Cert.ReferenceIdeal.defs _ _).mono (fun _ h c => ⟨(h c).1.trans
      ((congrArg RefValue.refOf (same c)).trans (Same.value_eq _).symm), (h c).2⟩) (RefValue.run (F := Ideal) m' ρ')⟩

theorem bitexact : Cert.bitexact_Kernel_Reference := fun m ρ m' ρ' _ same =>
  ⟨fun c => Gather.resultOf (F := Bits) m c,
    (θ_run Cert.KernelIdeal.defs _ _).mono (fun _ h c => ⟨(h.1 c).2, (h.1 c).1⟩) (Gather.run_main (F := Bits) m ρ),
    (θ_run Cert.ReferenceIdeal.defs _ _).mono (fun _ h c => ⟨(h c).1.trans
      ((congrArg RefValue.refOf (same c)).trans (Same.value_eq _).symm), (h c).2⟩) (RefValue.run (F := Bits) m' ρ')⟩

/-! ## The copy: runs -/

theorem frame_copyKernel : Cert.quiescent_CopyKernel := fun m ρ _ =>
  (θ_run Cert.CopyKernelIdeal.defs _ _).mono (fun _ h => ⟨fun c => (h.1 c).1, h.2⟩) (Copy.run_main (F := Bits) m ρ)

theorem frame_copyKernelIdeal : Cert.quiescent_CopyKernelIdeal := fun m ρ _ =>
  (θ_run Cert.CopyKernelIdeal.defs _ _).mono (fun _ h => ⟨fun c => (h.1 c).1, h.2⟩) (Copy.run_main (F := Ideal) m ρ)

theorem frame_copyReferenceIdeal : Cert.quiescent_CopyReferenceIdeal := fun m ρ _ =>
  (θ_run Cert.CopyReferenceIdeal.defs _ _).mono (fun r h => ⟨fun c => (h c).2, sem_eq_zero_of_no_sems (by decide) r.2⟩)
    (CopySame.run (F := Ideal) m ρ)

theorem frame_copyReference : Cert.quiescent_CopyReference := fun m ρ _ =>
  (θ_run Cert.CopyReferenceIdeal.defs _ _).mono (fun r h => ⟨fun c => (h c).2, sem_eq_zero_of_no_sems (by decide) r.2⟩)
    (CopySame.run (F := Bits) m ρ)

/-! ## The copy: values -/

theorem copy_algebraic : Cert.algebraic_CopyKernelIdeal_CopyReferenceIdeal := fun m ρ m' ρ' _ same =>
  ⟨fun c => Copy.resultOf (F := Ideal) m c,
    (θ_run Cert.CopyKernelIdeal.defs _ _).mono (fun _ h c => ⟨(h.1 c).2, (h.1 c).1⟩) (Copy.run_main (F := Ideal) m ρ),
    (θ_run Cert.CopyReferenceIdeal.defs _ _).mono (fun _ h c => ⟨(h c).1.trans
      ((congrArg CopySame.topOf (same c)).trans (CopySame.taken_eq _ _).symm), (h c).2⟩) (CopySame.run (F := Ideal) m' ρ')⟩

theorem copy_bitexact : Cert.bitexact_CopyKernel_CopyReference := fun m ρ m' ρ' _ same =>
  ⟨fun c => Copy.resultOf (F := Bits) m c,
    (θ_run Cert.CopyKernelIdeal.defs _ _).mono (fun _ h c => ⟨(h.1 c).2, (h.1 c).1⟩) (Copy.run_main (F := Bits) m ρ),
    (θ_run Cert.CopyReferenceIdeal.defs _ _).mono (fun _ h c => ⟨(h c).1.trans
      ((congrArg CopySame.topOf (same c)).trans (CopySame.taken_eq _ _).symm), (h c).2⟩) (CopySame.run (F := Bits) m' ρ')⟩

theorem claim : Cert.Claim := ⟨Cert.Kernel.Gen.facts, Cert.KernelIdeal.Gen.facts, Cert.ReferenceIdeal.Gen.facts, Cert.Reference.Gen.facts,
  Cert.CopyKernel.Gen.facts, Cert.CopyKernelIdeal.Gen.facts, Cert.CopyReferenceIdeal.Gen.facts, Cert.CopyReference.Gen.facts,
  frame_kernel, frame_kernelIdeal, frame_referenceIdeal, frame_reference,
  frame_copyKernel, frame_copyKernelIdeal, frame_copyReferenceIdeal, frame_copyReference,
  trivial, algebraic, bitexact, trivial, copy_algebraic, copy_bitexact⟩

end Cert.Proof

end
